-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_v19) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hDownProj : Cert.DownProj.Facts) (hDownProjIdeal : Cert.DownProjIdeal.Facts) (hDownProjRefIdeal : Cert.DownProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_DownProj_DownProjIdeal
    ∧ algebraic_DownProjIdeal_DownProjRefIdeal (hDownProjIdeal := hDownProjIdeal) (hDownProjRefIdeal := hDownProjRefIdeal)
-- ==== Pre_finite.lean ====
abbrev S16384x24576 : Shape := ⟨2, ![16384, 24576]⟩
abbrev S128x16384 : Shape := ⟨2, ![128, 16384]⟩
abbrev S16 : Shape := ⟨1, ![16]⟩
abbrev S16384x8192 : Shape := ⟨2, ![16384, 8192]⟩
abbrev S_ : Shape := ⟨0, ![]⟩
abbrev S32x16384 : Shape := ⟨2, ![32, 16384]⟩

class Facts : Prop where
  slices_S16384x24576_S16384x8192_0_0 : S16384x24576.Slices ![0, 0] S16384x8192
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel
  slices_S128x16384_S32x16384_0_0 : S128x16384.Slices ![0, 0] S32x16384
  bcast_S_S32x16384 : S_.BroadcastsInDim S32x16384 (![] : Fin 0 → Fin S32x16384.rank)
  reducesTo_S32x16384_S_d0_1 : S32x16384.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v16 : IVec S_ 1) (main_v17 : FVec F S16 .f32) : IVec S_ 1 :=
  let main_cst_4 : FVec F S_ .f32 := constant S_ .f32 0x7F800000#32
  let main_v18 : FVec F S16 .f32 := broadcastInDim S16 ![] bcast_S_S16 main_cst_4
  let main_v19 : IVec S16 1 := cmpf .olt main_v17 main_v18
  let main_c_5 : IVec S_ 1 := constantI S_ 1 1#1
  let main_v20 : IVec S_ 1 := (fun x v => Host.reduce IntOp.andi x v reducesTo_S16_S_d0 h_S_) main_v19 main_c_5
  let main_v21 : IVec S_ 1 := andi main_v16 main_v20
  main_v21

def fn {F : FTy → Type} [FloatOps F] (main_arg0 : FVec F S16384x24576 .bf16) (main_arg1 : FVec F S128x16384 .f32) (main_arg2 : FVec F S16 .f32) (main_arg3 : FVec F S16 .f32) : IVec S_ 1 :=
  let main_v0 : FVec F S16384x8192 .bf16 := (extractStridedSlice S16384x8192 ![0, 0] · slices_S16384x24576_S16384x8192_0_0) main_arg0
  let main_v1 : FVec F S16384x8192 .f32 := (extf .f32 · bitsLt_bf16_f32) main_v0
  let main_v2 : FVec F S16384x8192 .f32 := Host.absf main_v1
  let main_cst : FVec F S_ .f32 := constant S_ .f32 0x7F800000#32
  let main_v3 : FVec F S16384x8192 .f32 := broadcastInDim S16384x8192 ![] bcast_S_S16384x8192 main_cst
  let main_v4 : IVec S16384x8192 1 := cmpf .olt main_v2 main_v3
  let main_c : IVec S_ 1 := constantI S_ 1 1#1
  let main_v5 : IVec S_ 1 := (fun x v => Host.reduce IntOp.andi x v reducesTo_S16384x8192_S_d0_1 h_S_) main_v4 main_c
  let main_v6 : FVec F S32x16384 .f32 := (extractStridedSlice S32x16384 ![0, 0] · slices_S128x16384_S32x16384_0_0) main_arg1
  let main_v7 : FVec F S32x16384 .f32 := Host.absf main_v6
  let main_cst_0 : FVec F S_ .f32 := constant S_ .f32 0x7F800000#32
  let main_v8 : FVec F S32x16384 .f32 := broadcastInDim S32x16384 ![] bcast_S_S32x16384 main_cst_0
  let main_v9 : IVec S32x16384 1 := cmpf .olt main_v7 main_v8
  let main_c_1 : IVec S_ 1 := constantI S_ 1 1#1
  let main_v10 : IVec S_ 1 := (fun x v => Host.reduce IntOp.andi x v reducesTo_S32x16384_S_d0_1 h_S_) main_v9 main_c_1
  let main_v11 : IVec S_ 1 := andi main_v5 main_v10
  let main_v12 : FVec F S16 .f32 := Host.absf main_arg2
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_c_3 : IVec S_ 1 := constantI S_ 1 1#1
  let main_v15 : IVec S_ 1 := (fun x v => Host.reduce IntOp.andi x v reducesTo_S16_S_d0 h_S_) main_v14 main_c_3
  let main_v16 : IVec S_ 1 := andi main_v11 main_v15
  let main_v17 : FVec F S16 .f32 := Host.absf main_arg3
  fn_part1 (F := F) main_v16 main_v17
-- ==== Kernel.lean ====
abbrev S16384x24576 : Shape := ⟨2, ![16384, 24576]⟩
abbrev S128x16384 : Shape := ⟨2, ![128, 16384]⟩
abbrev S16 : Shape := ⟨1, ![16]⟩
abbrev S2x16384x4096 : Shape := ⟨3, ![2, 16384, 4096]⟩
abbrev S256x2048 : Shape := ⟨2, ![256, 2048]⟩
abbrev S256x4096 : Shape := ⟨2, ![256, 4096]⟩
abbrev S8x256 : Shape := ⟨2, ![8, 256]⟩
abbrev S1x256x4096 : Shape := ⟨3, ![1, 256, 4096]⟩
abbrev S8x256x640 : Shape := ⟨3, ![8, 256, 640]⟩
abbrev S8x8x128 : Shape := ⟨3, ![8, 8, 128]⟩
abbrev S256x256 : Shape := ⟨2, ![256, 256]⟩
abbrev S16x256 : Shape := ⟨2, ![16, 256]⟩
abbrev S256x128 : Shape := ⟨2, ![256, 128]⟩
abbrev S1x256 : Shape := ⟨2, ![1, 256]⟩
abbrev S1 : Shape := ⟨1, ![1]⟩
abbrev S1x1 : Shape := ⟨2, ![1, 1]⟩
abbrev S1x1x1 : Shape := ⟨3, ![1, 1, 1]⟩
abbrev S256 : Shape := ⟨1, ![256]⟩
abbrev S256x1 : Shape := ⟨2, ![256, 1]⟩
abbrev S256x512 : Shape := ⟨2, ![256, 512]⟩
abbrev S256x640 : Shape := ⟨2, ![256, 640]⟩
abbrev S1x256x640 : Shape := ⟨3, ![1, 256, 640]⟩
abbrev S1x256x512 : Shape := ⟨3, ![1, 256, 512]⟩
abbrev S8x128 : Shape := ⟨2, ![8, 128]⟩
abbrev S1x8x128 : Shape := ⟨3, ![1, 8, 128]⟩

abbrev nBuf : Space → Nat
  | .hbm => 5
  | .vmem => 14
  | .smem => 2
  | _ => 0

abbrev bufTy : (tb : Table) → Fin (tcTables nBuf tb) → BufTy
  | .hbm, ⟨0, _⟩ => ⟨S16384x24576, .bf16⟩
  | .hbm, ⟨1, _⟩ => ⟨S128x16384, .f32⟩
  | .hbm, ⟨2, _⟩ => ⟨S16, .f32⟩
  | .hbm, ⟨3, _⟩ => ⟨S16, .f32⟩
  | .hbm, ⟨4, _⟩ => ⟨S2x16384x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S1x256x4096, .bf16⟩
  | .local _ .vmem, ⟨11, _⟩ => ⟨S1x256x4096, .bf16⟩
  | .local _ .vmem, ⟨12, _⟩ => ⟨S8x256x640, .f32⟩
  | .local _ .vmem, ⟨13, _⟩ => ⟨S8x8x128, .f32⟩
  | .local _ .smem, ⟨0, _⟩ => ⟨S16, .f32⟩
  | .local _ .smem, ⟨1, _⟩ => ⟨S16, .f32⟩
  | _, _ => ⟨S16384x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨4, ![2, 4, 1, 16], ![false, false, false, false]⟩

def k0_off1 (i : grid0.Coords) (c0_i32_4 : BitVec 32) : Fin 2 → Nat :=
  let arg2 : BitVec 32 := BitVec.ofNat 32 (i 2).val
  let c8_i32 : BitVec 32 := 8#32
  let v28 : BitVec 32 := Scalar.muli arg2 c8_i32
  let v29 : BitVec 32 := Scalar.addi v28 c0_i32_4
  let v32 : Index := Scalar.indexCast v29
  let c0 : Index := 0#32
  ![v32.toNat, 0]
def k0_off2 (i : grid0.Coords) (c0_i32_4 : BitVec 32) : Fin 1 → Nat :=
  let arg0 : BitVec 32 := BitVec.ofNat 32 (i 0).val
  let c8_i32_5 : BitVec 32 := 8#32
  let v30 : BitVec 32 := Scalar.muli arg0 c8_i32_5
  let arg2 : BitVec 32 := BitVec.ofNat 32 (i 2).val
  let c8_i32 : BitVec 32 := 8#32
  let v28 : BitVec 32 := Scalar.muli arg2 c8_i32
  let v29 : BitVec 32 := Scalar.addi v28 c0_i32_4
  let v31 : BitVec 32 := Scalar.addi v30 v29
  let v34 : Index := Scalar.indexCast v31
  ![v34.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg3
  let c2_i32 : BitVec 32 := 2#32
  let v2 : BitVec 32 := Scalar.muli c2_i32 arg3
  let c15_i32 : BitVec 32 := 15#32
  let v3 : BitVec 32 := Scalar.subi c15_i32 v2
  let v4 : BitVec 32 := Scalar.muli arg0 v3
  let v5 : BitVec 32 := Scalar.addi v1 v4
  let c0_i32 : BitVec 32 := 0#32
  ![v5.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg3
  let c2_i32 : BitVec 32 := 2#32
  let v2 : BitVec 32 := Scalar.muli c2_i32 arg3
  let c15_i32 : BitVec 32 := 15#32
  let v3 : BitVec 32 := Scalar.subi c15_i32 v2
  let v4 : BitVec 32 := Scalar.muli arg0 v3
  let v5 : BitVec 32 := Scalar.addi v1 v4
  let c1_i32 : BitVec 32 := 1#32
  let v6 : BitVec 32 := Scalar.addi c1_i32 arg2
  let c0_i32 : BitVec 32 := 0#32
  ![v5.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg3
  let c2_i32 : BitVec 32 := 2#32
  let v2 : BitVec 32 := Scalar.muli c2_i32 arg3
  let c15_i32 : BitVec 32 := 15#32
  let v3 : BitVec 32 := Scalar.subi c15_i32 v2
  let v4 : BitVec 32 := Scalar.muli arg0 v3
  let v5 : BitVec 32 := Scalar.addi v1 v4
  let c1_i32 : BitVec 32 := 1#32
  let v6 : BitVec 32 := Scalar.addi c1_i32 arg2
  let c0_i32 : BitVec 32 := 0#32
  ![v5.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg3
  let c2_i32 : BitVec 32 := 2#32
  let v2 : BitVec 32 := Scalar.muli c2_i32 arg3
  let c15_i32 : BitVec 32 := 15#32
  let v3 : BitVec 32 := Scalar.subi c15_i32 v2
  let v4 : BitVec 32 := Scalar.muli arg0 v3
  let v5 : BitVec 32 := Scalar.addi v1 v4
  let c0_i32 : BitVec 32 := 0#32
  ![arg0.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.addi c2_i32 arg0
  let c16_i32 : BitVec 32 := 16#32
  let v1 : BitVec 32 := Scalar.muli arg1 c16_i32
  let v2 : BitVec 32 := Scalar.addi v1 arg3
  let c2_i32_0 : BitVec 32 := 2#32
  let v3 : BitVec 32 := Scalar.muli c2_i32_0 arg3
  let c15_i32 : BitVec 32 := 15#32
  let v4 : BitVec 32 := Scalar.subi c15_i32 v3
  let v5 : BitVec 32 := Scalar.muli arg0 v4
  let v6 : BitVec 32 := Scalar.addi v2 v5
  let c0_i32 : BitVec 32 := 0#32
  ![v0.toNat, v6.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg3
  let c2_i32 : BitVec 32 := 2#32
  let v2 : BitVec 32 := Scalar.muli c2_i32 arg3
  let c15_i32 : BitVec 32 := 15#32
  let v3 : BitVec 32 := Scalar.subi c15_i32 v2
  let v4 : BitVec 32 := Scalar.muli arg0 v3
  let v5 : BitVec 32 := Scalar.addi v1 v4
  let c0_i32 : BitVec 32 := 0#32
  ![arg0.toNat, v5.toNat, arg2.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]
-- ==== ReferenceIdeal.lean ====
abbrev S16384x24576 : Shape := ⟨2, ![16384, 24576]⟩
abbrev S128x16384 : Shape := ⟨2, ![128, 16384]⟩
abbrev S16 : Shape := ⟨1, ![16]⟩
abbrev S4x4096x24576 : Shape := ⟨3, ![4, 4096, 24576]⟩
abbrev S16384x128 : Shape := ⟨2, ![16384, 128]⟩
abbrev S4x4096x128 : Shape := ⟨3, ![4, 4096, 128]⟩
abbrev S4x4096x2048 : Shape := ⟨3, ![4, 4096, 2048]⟩
abbrev S4x4096x8x256 : Shape := ⟨4, ![4, 4096, 8, 256]⟩
abbrev S4x8x4096x256 : Shape := ⟨4, ![4, 8, 4096, 256]⟩
abbrev S_ : Shape := ⟨0, ![]⟩
abbrev S4x4096x4096 : Shape := ⟨3, ![4, 4096, 4096]⟩
abbrev S4x4096x8x512 : Shape := ⟨4, ![4, 4096, 8, 512]⟩
abbrev S4x8x4096x512 : Shape := ⟨4, ![4, 8, 4096, 512]⟩
abbrev S4x4096x16 : Shape := ⟨3, ![4, 4096, 16]⟩
abbrev S4x4096x2x8 : Shape := ⟨4, ![4, 4096, 2, 8]⟩
abbrev S2x8 : Shape := ⟨2, ![2, 8]⟩
abbrev S1x1x2x8 : Shape := ⟨4, ![1, 1, 2, 8]⟩
abbrev S2x4x8x4096 : Shape := ⟨4, ![2, 4, 8, 4096]⟩
abbrev S8x8x4096x256 : Shape := ⟨4, ![8, 8, 4096, 256]⟩
abbrev S8x8x4096x512 : Shape := ⟨4, ![8, 8, 4096, 512]⟩
abbrev S1x4x8x4096 : Shape := ⟨4, ![1, 4, 8, 4096]⟩
abbrev S4x8x4096 : Shape := ⟨3, ![4, 8, 4096]⟩
abbrev S8x8x4096 : Shape := ⟨3, ![8, 8, 4096]⟩
abbrev S64x64 : Shape := ⟨2, ![64, 64]⟩
abbrev S8x8x512x256 : Shape := ⟨4, ![8, 8, 512, 256]⟩
abbrev S8x8x256 : Shape := ⟨3, ![8, 8, 256]⟩
abbrev S8x8 : Shape := ⟨2, ![8, 8]⟩
abbrev S8x8x64x64x256 : Shape := ⟨5, ![8, 8, 64, 64, 256]⟩
abbrev S64x8x8x64x256 : Shape := ⟨5, ![64, 8, 8, 64, 256]⟩
abbrev S8x8x64x64x512 : Shape := ⟨5, ![8, 8, 64, 64, 512]⟩
abbrev S64x8x8x64x512 : Shape := ⟨5, ![64, 8, 8, 64, 512]⟩
abbrev S8x8x64x64 : Shape := ⟨4, ![8, 8, 64, 64]⟩
abbrev S64x8x8x64 : Shape := ⟨4, ![64, 8, 8, 64]⟩
abbrev S1x8x8x64x256 : Shape := ⟨5, ![1, 8, 8, 64, 256]⟩
abbrev S8x8x64x256 : Shape := ⟨4, ![8, 8, 64, 256]⟩
abbrev S1x8x8x64x512 : Shape := ⟨5, ![1, 8, 8, 64, 512]⟩
abbrev S8x8x64x512 : Shape := ⟨4, ![8, 8, 64, 512]⟩
abbrev S1x8x8x64 : Shape := ⟨4, ![1, 8, 8, 64]⟩
abbrev S8x8x64 : Shape := ⟨3, ![8, 8, 64]⟩
abbrev S8x8x64x1 : Shape := ⟨4, ![8, 8, 64, 1]⟩
abbrev S8x8x1x64 : Shape := ⟨4, ![8, 8, 1, 64]⟩
abbrev S8x8x1 : Shape := ⟨3, ![8, 8, 1]⟩
abbrev S8x8x1x1 : Shape := ⟨4, ![8, 8, 1, 1]⟩
abbrev S16384x4096 : Shape := ⟨2, ![16384, 4096]⟩
abbrev S1x16384x4096 : Shape := ⟨3, ![1, 16384, 4096]⟩
abbrev S2x16384x4096 : Shape := ⟨3, ![2, 16384, 4096]⟩

abbrev nBuf : Space → Nat
  | .hbm => 232
  | .vmem => 0
  | .smem => 0
  | _ => 0

abbrev hbmTy0_0 (i : Nat) : BufTy := match i % 128 with
  | 0 => ⟨S16384x24576, .bf16⟩
  | 1 => ⟨S128x16384, .f32⟩
  | 2 => ⟨S16, .f32⟩
  | 3 => ⟨S16, .f32⟩
  | 4 => ⟨S16384x24576, .f32⟩
  | 5 => ⟨S4x4096x24576, .f32⟩
  | 6 => ⟨S16384x128, .f32⟩
  | 7 => ⟨S4x4096x128, .f32⟩
  | 8 => ⟨S4x4096x2048, .f32⟩
  | 9 => ⟨S4x4096x8x256, .f32⟩
  | 10 => ⟨S4x8x4096x256, .f32⟩
  | 11 => ⟨S4x4096x2048, .f32⟩
  | 12 => ⟨S4x4096x8x256, .f32⟩
  | 13 => ⟨S4x8x4096x256, .f32⟩
  | 14 => ⟨S_, .f32⟩
  | 15 => ⟨S4x8x4096x256, .f32⟩
  | 16 => ⟨S4x8x4096x256, .f32⟩
  | 17 => ⟨S4x4096x4096, .f32⟩
  | 18 => ⟨S4x4096x8x512, .f32⟩
  | 19 => ⟨S4x8x4096x512, .f32⟩
  | 20 => ⟨S4x4096x16, .f32⟩
  | 21 => ⟨S4x4096x2x8, .f32⟩
  | 22 => ⟨S2x8, .f32⟩
  | 23 => ⟨S1x1x2x8, .f32⟩
  | 24 => ⟨S4x4096x2x8, .f32⟩
  | 25 => ⟨S4x4096x2x8, .f32⟩
  | 26 => ⟨S2x4x8x4096, .f32⟩
  | 27 => ⟨S4x4096x16, .f32⟩
  | 28 => ⟨S4x4096x2x8, .f32⟩
  | 29 => ⟨S2x8, .f32⟩
  | 30 => ⟨S1x1x2x8, .f32⟩
  | 31 => ⟨S4x4096x2x8, .f32⟩
  | 32 => ⟨S4x4096x2x8, .f32⟩
  | 33 => ⟨S4x4096x2x8, .f32⟩
  | 34 => ⟨S_, .f32⟩
  | 35 => ⟨S4x4096x2x8, .f32⟩
  | 36 => ⟨S4x4096x2x8, .f32⟩
  | 37 => ⟨S4x4096x2x8, .f32⟩
  | 38 => ⟨S4x4096x2x8, .f32⟩
  | 39 => ⟨S4x4096x2x8, .f32⟩
  | 40 => ⟨S4x4096x2x8, .f32⟩
  | 41 => ⟨S4x4096x2x8, .f32⟩
  | 42 => ⟨S4x4096x2x8, .f32⟩
  | 43 => ⟨S2x4x8x4096, .f32⟩
  | 44 => ⟨S4x8x4096x256, .f32⟩
  | 45 => ⟨S8x8x4096x256, .f32⟩
  | 46 => ⟨S4x8x4096x256, .f32⟩
  | 47 => ⟨S8x8x4096x256, .f32⟩
  | 48 => ⟨S4x8x4096x512, .f32⟩
  | 49 => ⟨S8x8x4096x512, .f32⟩
  | 50 => ⟨S1x4x8x4096, .f32⟩
  | 51 => ⟨S4x8x4096, .f32⟩
  | 52 => ⟨S1x4x8x4096, .f32⟩
  | 53 => ⟨S4x8x4096, .f32⟩
  | 54 => ⟨S4x8x4096, .f32⟩
  | 55 => ⟨S8x8x4096, .f32⟩
  | 56 => ⟨S1x4x8x4096, .f32⟩
  | 57 => ⟨S4x8x4096, .f32⟩
  | 58 => ⟨S1x4x8x4096, .f32⟩
  | 59 => ⟨S4x8x4096, .f32⟩
  | 60 => ⟨S4x8x4096, .f32⟩
  | 61 => ⟨S8x8x4096, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S_, .f32⟩
  | 74 => ⟨S8x8x512x256, .f32⟩
  | 75 => ⟨S_, .f32⟩
  | 76 => ⟨S8x8x256, .f32⟩
  | 77 => ⟨S_, .f32⟩
  | 78 => ⟨S8x8, .f32⟩
  | 79 => ⟨S8x8x64x64x256, .f32⟩
  | 80 => ⟨S64x8x8x64x256, .f32⟩
  | 81 => ⟨S8x8x64x64x256, .f32⟩
  | 82 => ⟨S64x8x8x64x256, .f32⟩
  | 83 => ⟨S8x8x64x64x512, .f32⟩
  | 84 => ⟨S64x8x8x64x512, .f32⟩
  | 85 => ⟨S8x8x64x64, .f32⟩
  | 86 => ⟨S64x8x8x64, .f32⟩
  | 87 => ⟨S8x8x64x64, .f32⟩
  | 88 => ⟨S64x8x8x64, .f32⟩
  | 89 => ⟨S_, .f32⟩
  | 90 => ⟨S64x8x8x64x512, .f32⟩
  | 91 => ⟨S_, .i32⟩
  | 92 => ⟨S64x8x8x64x256, .f32⟩
  | 93 => ⟨S64x8x8x64x256, .f32⟩
  | 94 => ⟨S64x8x8x64x512, .f32⟩
  | 95 => ⟨S64x8x8x64, .f32⟩
  | 96 => ⟨S64x8x8x64, .f32⟩
  | 97 => ⟨S64x64, .i1⟩
  | 98 => ⟨S_, .i32⟩
  | 99 => ⟨S8x8x512x256, .f32⟩
  | 100 => ⟨S8x8x256, .f32⟩
  | 101 => ⟨S8x8, .f32⟩
  | 102 => ⟨S64x8x8x64x512, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x8x8x64x256, .f32⟩
  | 110 => ⟨S8x8x64x256, .f32⟩
  | 111 => ⟨S_, .i32⟩
  | 112 => ⟨S_, .i32⟩
  | 113 => ⟨S_, .i32⟩
  | 114 => ⟨S_, .i32⟩
  | 115 => ⟨S1x8x8x64x256, .f32⟩
  | 116 => ⟨S8x8x64x256, .f32⟩
  | 117 => ⟨S_, .i32⟩
  | 118 => ⟨S_, .i32⟩
  | 119 => ⟨S_, .i32⟩
  | 120 => ⟨S_, .i32⟩
  | 121 => ⟨S1x8x8x64x512, .f32⟩
  | 122 => ⟨S8x8x64x512, .f32⟩
  | 123 => ⟨S_, .i32⟩
  | 124 => ⟨S_, .i32⟩
  | 125 => ⟨S_, .i32⟩
  | 126 => ⟨S1x8x8x64, .f32⟩
  | 127 => ⟨S8x8x64, .f32⟩
  | _ => ⟨S16384x24576, .bf16⟩

abbrev hbmTy0_1 (i : Nat) : BufTy := match i % 128 with
  | 0 => ⟨S_, .i32⟩
  | 1 => ⟨S_, .i32⟩
  | 2 => ⟨S_, .i32⟩
  | 3 => ⟨S1x8x8x64, .f32⟩
  | 4 => ⟨S8x8x64, .f32⟩
  | 5 => ⟨S_, .f32⟩
  | 6 => ⟨S_, .f32⟩
  | 7 => ⟨S8x8x64, .f32⟩
  | 8 => ⟨S8x8x64x1, .f32⟩
  | 9 => ⟨S8x8x1x64, .f32⟩
  | 10 => ⟨S8x8x64x64, .f32⟩
  | 11 => ⟨S8x8x64x64, .f32⟩
  | 12 => ⟨S8x8x64x64, .f32⟩
  | 13 => ⟨S8x8x1x64, .f32⟩
  | 14 => ⟨S8x8x64x64, .f32⟩
  | 15 => ⟨S8x8x64x64, .f32⟩
  | 16 => ⟨S_, .f32⟩
  | 17 => ⟨S_, .f32⟩
  | 18 => ⟨S8x8x64x64, .i1⟩
  | 19 => ⟨S8x8x64x64, .f32⟩
  | 20 => ⟨S8x8x64x64, .f32⟩
  | 21 => ⟨S8x8x1, .f32⟩
  | 22 => ⟨S8x8x64, .f32⟩
  | 23 => ⟨S8x8x64, .f32⟩
  | 24 => ⟨S_, .f32⟩
  | 25 => ⟨S8x8x64, .f32⟩
  | 26 => ⟨S8x8x64, .f32⟩
  | 27 => ⟨S8x8x64x64, .f32⟩
  | 28 => ⟨S8x8x64x1, .f32⟩
  | 29 => ⟨S8x8x64x64, .f32⟩
  | 30 => ⟨S8x8x64x64, .f32⟩
  | 31 => ⟨S8x8x64x64, .f32⟩
  | 32 => ⟨S8x8x64x64, .f32⟩
  | 33 => ⟨S8x8x64, .f32⟩
  | 34 => ⟨S8x8x64, .f32⟩
  | 35 => ⟨S8x8x64x1, .f32⟩
  | 36 => ⟨S8x8x64x512, .f32⟩
  | 37 => ⟨S8x8x64x512, .f32⟩
  | 38 => ⟨S8x8x64x512, .f32⟩
  | 39 => ⟨S8x8x64x512, .f32⟩
  | 40 => ⟨S8x8x64x512, .f32⟩
  | 41 => ⟨S8x8x64, .f32⟩
  | 42 => ⟨S8x8x64, .f32⟩
  | 43 => ⟨S_, .f32⟩
  | 44 => ⟨S8x8x64, .f32⟩
  | 45 => ⟨S8x8x64, .f32⟩
  | 46 => ⟨S8x8x64, .f32⟩
  | 47 => ⟨S8x8x64, .f32⟩
  | 48 => ⟨S8x8x64, .f32⟩
  | 49 => ⟨S8x8x64, .f32⟩
  | 50 => ⟨S8x8x64x1, .f32⟩
  | 51 => ⟨S8x8x64x512, .f32⟩
  | 52 => ⟨S8x8x64x512, .f32⟩
  | 53 => ⟨S8x8x1, .f32⟩
  | 54 => ⟨S8x8, .f32⟩
  | 55 => ⟨S8x8x1, .f32⟩
  | 56 => ⟨S8x8x64, .f32⟩
  | 57 => ⟨S8x8x64, .f32⟩
  | 58 => ⟨S8x8x64, .f32⟩
  | 59 => ⟨S8x8, .f32⟩
  | 60 => ⟨S_, .f32⟩
  | 61 => ⟨S8x8, .f32⟩
  | 62 => ⟨S8x8, .f32⟩
  | 63 => ⟨S8x8, .f32⟩
  | 64 => ⟨S8x8, .f32⟩
  | 65 => ⟨S8x8, .f32⟩
  | 66 => ⟨S8x8x1, .f32⟩
  | 67 => ⟨S8x8x64, .f32⟩
  | 68 => ⟨S8x8x64, .f32⟩
  | 69 => ⟨S8x8x64, .f32⟩
  | 70 => ⟨S8x8x1x1, .f32⟩
  | 71 => ⟨S8x8x512x256, .f32⟩
  | 72 => ⟨S8x8x512x256, .f32⟩
  | 73 => ⟨S8x8x64x1, .f32⟩
  | 74 => ⟨S8x8x64x512, .f32⟩
  | 75 => ⟨S8x8x64x512, .f32⟩
  | 76 => ⟨S8x8x512x256, .f32⟩
  | 77 => ⟨S8x8x512x256, .f32⟩
  | 78 => ⟨S8x8x1, .f32⟩
  | 79 => ⟨S8x8x256, .f32⟩
  | 80 => ⟨S8x8x256, .f32⟩
  | 81 => ⟨S8x8x256, .f32⟩
  | 82 => ⟨S8x8x256, .f32⟩
  | 83 => ⟨S1x8x8x64x512, .f32⟩
  | 84 => ⟨S_, .i32⟩
  | 85 => ⟨S_, .i32⟩
  | 86 => ⟨S_, .i32⟩
  | 87 => ⟨S_, .i32⟩
  | 88 => ⟨S64x8x8x64x512, .f32⟩
  | 89 => ⟨S_, .i32⟩
  | 90 => ⟨S_, .i32⟩
  | 91 => ⟨S8x8x64x64x512, .f32⟩
  | 92 => ⟨S8x8x4096x512, .f32⟩
  | 93 => ⟨S4x8x4096x512, .f32⟩
  | 94 => ⟨S4x4096x8x512, .f32⟩
  | 95 => ⟨S16384x4096, .f32⟩
  | 96 => ⟨S4x8x4096x512, .f32⟩
  | 97 => ⟨S4x8x4096x512, .f32⟩
  | 98 => ⟨S4x4096x8x512, .f32⟩
  | 99 => ⟨S16384x4096, .f32⟩
  | 100 => ⟨S1x16384x4096, .f32⟩
  | 101 => ⟨S1x16384x4096, .f32⟩
  | 102 => ⟨S2x16384x4096, .f32⟩
  | 103 => ⟨S2x16384x4096, .bf16⟩
  | _ => ⟨S16384x24576, .bf16⟩

abbrev hbmTy (i : Nat) : BufTy := match i / 128 with
  | 0 => hbmTy0_0 i
  | 1 => hbmTy0_1 i
  | _ => ⟨S16384x24576, .bf16⟩

abbrev bufTy : (tb : Table) → Fin (tcTables nBuf tb) → BufTy
  | .hbm, ⟨i, _⟩ => hbmTy i
  | _, _ => ⟨S16384x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_c : Ref sig .tc := ⟨.hbm, 62, rfl⟩
abbrev main_v56 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_c_0 : Ref sig .tc := ⟨.hbm, 70, rfl⟩
abbrev main_call5_v5 : Ref sig .tc := ⟨.hbm, 71, rfl⟩
abbrev main_v57 : Ref sig .tc := ⟨.hbm, 72, rfl⟩
abbrev main_cst_1 : Ref sig .tc := ⟨.hbm, 73, rfl⟩
abbrev main_v58 : Ref sig .tc := ⟨.hbm, 74, rfl⟩
abbrev main_cst_2 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_4 : Ref sig .tc := ⟨.hbm, 89, rfl⟩
abbrev main_v71 : Ref sig .tc := ⟨.hbm, 90, rfl⟩
abbrev main_c_5 : Ref sig .tc := ⟨.hbm, 91, rfl⟩
abbrev main_v72_0 : Ref sig .tc := ⟨.hbm, 92, rfl⟩
abbrev main_v72_1 : Ref sig .tc := ⟨.hbm, 93, rfl⟩
abbrev main_v72_2 : Ref sig .tc := ⟨.hbm, 94, rfl⟩
abbrev main_v72_3 : Ref sig .tc := ⟨.hbm, 95, rfl⟩
abbrev main_v72_4 : Ref sig .tc := ⟨.hbm, 96, rfl⟩
abbrev main_v72_5 : Ref sig .tc := ⟨.hbm, 97, rfl⟩
abbrev main_v72_6 : Ref sig .tc := ⟨.hbm, 98, rfl⟩
abbrev main_v72_7 : Ref sig .tc := ⟨.hbm, 99, rfl⟩
abbrev main_v72_8 : Ref sig .tc := ⟨.hbm, 100, rfl⟩
abbrev main_v72_9 : Ref sig .tc := ⟨.hbm, 101, rfl⟩
abbrev main_v72_10 : Ref sig .tc := ⟨.hbm, 102, rfl⟩
abbrev main_while0c_c_16 : Ref sig .tc := ⟨.hbm, 103, rfl⟩
abbrev main_while0c_v86 : Ref sig .tc := ⟨.hbm, 104, rfl⟩
abbrev main_while0b_call6_c : Ref sig .tc := ⟨.hbm, 105, rfl⟩
abbrev main_while0b_call6_c_0 : Ref sig .tc := ⟨.hbm, 106, rfl⟩
abbrev main_while0b_call6_c_1 : Ref sig .tc := ⟨.hbm, 107, rfl⟩
abbrev main_while0b_call6_c_2 : Ref sig .tc := ⟨.hbm, 108, rfl⟩
abbrev main_while0b_call6_v0 : Ref sig .tc := ⟨.hbm, 109, rfl⟩
abbrev main_while0b_v86 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_call7_c_2 : Ref sig .tc := ⟨.hbm, 114, rfl⟩
abbrev main_while0b_call7_v0 : Ref sig .tc := ⟨.hbm, 115, rfl⟩
abbrev main_while0b_v87 : Ref sig .tc := ⟨.hbm, 116, rfl⟩
abbrev main_while0b_call8_c : Ref sig .tc := ⟨.hbm, 117, rfl⟩
abbrev main_while0b_call8_c_0 : Ref sig .tc := ⟨.hbm, 118, rfl⟩
abbrev main_while0b_call8_c_1 : Ref sig .tc := ⟨.hbm, 119, rfl⟩
abbrev main_while0b_call8_c_2 : Ref sig .tc := ⟨.hbm, 120, rfl⟩
abbrev main_while0b_call8_v0 : Ref sig .tc := ⟨.hbm, 121, rfl⟩
abbrev main_while0b_v88 : Ref sig .tc := ⟨.hbm, 122, rfl⟩
abbrev main_while0b_call9_c : Ref sig .tc := ⟨.hbm, 123, rfl⟩
abbrev main_while0b_call9_c_0 : Ref sig .tc := ⟨.hbm, 124, rfl⟩
abbrev main_while0b_call9_c_1 : Ref sig .tc := ⟨.hbm, 125, rfl⟩
abbrev main_while0b_call9_v0 : Ref sig .tc := ⟨.hbm, 126, rfl⟩
abbrev main_while0b_v89 : Ref sig .tc := ⟨.hbm, 127, rfl⟩
abbrev main_while0b_call10_c : Ref sig .tc := ⟨.hbm, 128, rfl⟩
abbrev main_while0b_call10_c_0 : Ref sig .tc := ⟨.hbm, 129, rfl⟩
abbrev main_while0b_call10_c_1 : Ref sig .tc := ⟨.hbm, 130, rfl⟩
abbrev main_while0b_call10_v0 : Ref sig .tc := ⟨.hbm, 131, rfl⟩
abbrev main_while0b_v90 : Ref sig .tc := ⟨.hbm, 132, rfl⟩
abbrev main_while0b_call11_call0_cst : Ref sig .tc := ⟨.hbm, 133, rfl⟩
abbrev main_while0b_call11_call0_v0 : Ref sig .tc := ⟨.hbm, 134, rfl⟩
abbrev main_while0b_v91 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_cst_16 : Ref sig .tc := ⟨.hbm, 144, rfl⟩
abbrev main_while0b_call12_v0 : Ref sig .tc := ⟨.hbm, 145, rfl⟩
abbrev main_while0b_call12_v1 : Ref sig .tc := ⟨.hbm, 146, rfl⟩
abbrev main_while0b_call12_v2 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_cst_17 : Ref sig .tc := ⟨.hbm, 152, rfl⟩
abbrev main_while0b_v104 : Ref sig .tc := ⟨.hbm, 153, rfl⟩
abbrev main_while0b_v105 : Ref sig .tc := ⟨.hbm, 154, rfl⟩
abbrev main_while0b_v106 : Ref sig .tc := ⟨.hbm, 155, rfl⟩
abbrev main_while0b_v107 : Ref sig .tc := ⟨.hbm, 156, rfl⟩
abbrev main_while0b_v108 : Ref sig .tc := ⟨.hbm, 157, rfl⟩
abbrev main_while0b_v109 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_v120 : Ref sig .tc := ⟨.hbm, 169, rfl⟩
abbrev main_while0b_v121 : Ref sig .tc := ⟨.hbm, 170, rfl⟩
abbrev main_while0b_cst_18 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_v131 : Ref sig .tc := ⟨.hbm, 181, rfl⟩
abbrev main_while0b_v132 : Ref sig .tc := ⟨.hbm, 182, rfl⟩
abbrev main_while0b_v133 : Ref sig .tc := ⟨.hbm, 183, rfl⟩
abbrev main_while0b_v134 : Ref sig .tc := ⟨.hbm, 184, rfl⟩
abbrev main_while0b_v135 : Ref sig .tc := ⟨.hbm, 185, rfl⟩
abbrev main_while0b_v136 : Ref sig .tc := ⟨.hbm, 186, rfl⟩
abbrev main_while0b_v137 : Ref sig .tc := ⟨.hbm, 187, rfl⟩
abbrev main_while0b_cst_19 : Ref sig .tc := ⟨.hbm, 188, rfl⟩
abbrev main_while0b_v138 : Ref sig .tc := ⟨.hbm, 189, rfl⟩
abbrev main_while0b_v139 : Ref sig .tc := ⟨.hbm, 190, rfl⟩
abbrev main_while0b_v140 : Ref sig .tc := ⟨.hbm, 191, rfl⟩
abbrev main_while0b_v141 : Ref sig .tc := ⟨.hbm, 192, rfl⟩
abbrev main_while0b_v142 : Ref sig .tc := ⟨.hbm, 193, rfl⟩
abbrev main_while0b_v143 : Ref sig .tc := ⟨.hbm, 194, rfl⟩
abbrev main_while0b_v144 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_v148 : Ref sig .tc := ⟨.hbm, 199, rfl⟩
abbrev main_while0b_v149 : Ref sig .tc := ⟨.hbm, 200, rfl⟩
abbrev main_while0b_v150 : Ref sig .tc := ⟨.hbm, 201, rfl⟩
abbrev main_while0b_v151 : Ref sig .tc := ⟨.hbm, 202, rfl⟩
abbrev main_while0b_v152 : Ref sig .tc := ⟨.hbm, 203, rfl⟩
abbrev main_while0b_v153 : Ref sig .tc := ⟨.hbm, 204, rfl⟩
abbrev main_while0b_v154 : Ref sig .tc := ⟨.hbm, 205, rfl⟩
abbrev main_while0b_v155 : Ref sig .tc := ⟨.hbm, 206, rfl⟩
abbrev main_while0b_v156 : Ref sig .tc := ⟨.hbm, 207, rfl⟩
abbrev main_while0b_v157 : Ref sig .tc := ⟨.hbm, 208, rfl⟩
abbrev main_while0b_v158 : Ref sig .tc := ⟨.hbm, 209, rfl⟩
abbrev main_while0b_v159 : Ref sig .tc := ⟨.hbm, 210, rfl⟩
abbrev main_while0b_call13_v0 : Ref sig .tc := ⟨.hbm, 211, rfl⟩
abbrev main_while0b_call13_c : Ref sig .tc := ⟨.hbm, 212, rfl⟩
abbrev main_while0b_call13_c_0 : Ref sig .tc := ⟨.hbm, 213, rfl⟩
abbrev main_while0b_call13_c_1 : Ref sig .tc := ⟨.hbm, 214, rfl⟩
abbrev main_while0b_call13_c_2 : Ref sig .tc := ⟨.hbm, 215, rfl⟩
abbrev main_while0b_v160 : Ref sig .tc := ⟨.hbm, 216, rfl⟩
abbrev main_while0b_c_20 : Ref sig .tc := ⟨.hbm, 217, rfl⟩
abbrev main_while0b_v161 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩
abbrev main_v76 : Ref sig .tc := ⟨.hbm, 222, rfl⟩
abbrev main_v77 : Ref sig .tc := ⟨.hbm, 223, rfl⟩
abbrev main_v78 : Ref sig .tc := ⟨.hbm, 224, rfl⟩
abbrev main_v79 : Ref sig .tc := ⟨.hbm, 225, rfl⟩
abbrev main_v80 : Ref sig .tc := ⟨.hbm, 226, rfl⟩
abbrev main_v81 : Ref sig .tc := ⟨.hbm, 227, rfl⟩
abbrev main_v82 : Ref sig .tc := ⟨.hbm, 228, rfl⟩
abbrev main_v83 : Ref sig .tc := ⟨.hbm, 229, rfl⟩
abbrev main_v84 : Ref sig .tc := ⟨.hbm, 230, rfl⟩
abbrev main_v85 : Ref sig .tc := ⟨.hbm, 231, rfl⟩

abbrev nD : Nat := 1
abbrev τ : Topo := Topo.v7x

variable {F : FTy → Type} [FloatOps F]

abbrev main_while0_count : Scf.Loop 32 := ⟨0#32, 64#32, 1#32⟩
-- ==== InProj.lean ====
abbrev S16384x4096 : Shape := ⟨2, ![16384, 4096]⟩
abbrev S4096 : Shape := ⟨1, ![4096]⟩
abbrev S4096x24576 : Shape := ⟨2, ![4096, 24576]⟩
abbrev S128x4096 : Shape := ⟨2, ![128, 4096]⟩
abbrev S1x4096 : Shape := ⟨2, ![1, 4096]⟩
abbrev S16384x24576 : Shape := ⟨2, ![16384, 24576]⟩
abbrev S128x16384 : Shape := ⟨2, ![128, 16384]⟩
abbrev S4096x1024 : Shape := ⟨2, ![4096, 1024]⟩
abbrev S1024x1024 : Shape := ⟨2, ![1024, 1024]⟩
abbrev S128x1024 : Shape := ⟨2, ![128, 1024]⟩
abbrev S1024x4096 : Shape := ⟨2, ![1024, 4096]⟩
abbrev S2x128x4096 : Shape := ⟨3, ![2, 128, 4096]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x24576, .bf16⟩
  | .hbm, ⟨3, _⟩ => ⟨S128x4096, .bf16⟩
  | .hbm, ⟨4, _⟩ => ⟨S1x4096, .f32⟩
  | .hbm, ⟨5, _⟩ => ⟨S16384x24576, .bf16⟩
  | .hbm, ⟨6, _⟩ => ⟨S128x16384, .f32⟩
  | .local _ .vmem, ⟨0, _⟩ => ⟨S1x4096, .f32⟩
  | .local _ .vmem, ⟨1, _⟩ => ⟨S4096x1024, .bf16⟩
  | .local _ .vmem, ⟨2, _⟩ => ⟨S4096x1024, .bf16⟩
  | .local _ .vmem, ⟨3, _⟩ => ⟨S128x4096, .bf16⟩
  | .local _ .vmem, ⟨4, _⟩ => ⟨S1024x1024, .bf16⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | .local _ .vmem, ⟨8, _⟩ => ⟨S1024x4096, .bf16⟩
  | .local _ .vmem, ⟨9, _⟩ => ⟨S2x128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v8 : BitVec 32 := Scalar.muli arg0 c1024_i32
  let c0_i32_6 : BitVec 32 := 0#32
  let v9 : BitVec 32 := Scalar.addi v8 c0_i32_6
  v9
def k0_off1 (i : grid0.Coords) : Fin 2 → Nat :=
  let arg0 : BitVec 32 := BitVec.ofNat 32 (i 0).val
  let c1024_i32 : BitVec 32 := 1024#32
  let v8 : BitVec 32 := Scalar.muli arg0 c1024_i32
  let c0_i32_6 : BitVec 32 := 0#32
  let v9 : BitVec 32 := Scalar.addi v8 c0_i32_6
  let v10 : BitVec 32 := v9
  let c0_i32_11 : BitVec 32 := 0#32
  ![v10.toNat, 0]
@[reducible] def k0_t1_loop : Scf.Loop 32 :=
  let c0_i32_12 : BitVec 32 := 0#32
  let c8_i32 : BitVec 32 := 8#32
  let v16 : BitVec 32 := Scalar.addi c0_i32_12 c8_i32
  let c1_i32 : BitVec 32 := 1#32
  ⟨c0_i32_12, v16, c1_i32⟩
def k0_cond2 (k0_t1 : Fin k0_t1_loop.trips) : BitVec 1 :=
  let c0_i32_12 : BitVec 32 := 0#32
  let c1_i32 : BitVec 32 := 1#32
  let arg11 : BitVec 32 := Scf.iv c0_i32_12 c1_i32 k0_t1
  let c1_i32_26 : BitVec 32 := 1#32
  let v31 : BitVec 32 := Scalar.addi arg11 c1_i32_26
  let c8_i32_27 : BitVec 32 := 8#32
  let v32 : BitVec 1 := Scalar.cmpi .slt v31 c8_i32_27
  let v33 : BitVec 32 := Scalar.extui v32
  let c0_i32_28 : BitVec 32 := 0#32
  let v34 : BitVec 1 := Scalar.cmpi .ne v33 c0_i32_28
  v34

def k0_mult2 (i : grid0.Coords) (k0_t1 : Fin k0_t1_loop.trips) : BitVec 32 :=
  let arg0 : BitVec 32 := BitVec.ofNat 32 (i 0).val
  let c1024_i32 : BitVec 32 := 1024#32
  let v8 : BitVec 32 := Scalar.muli arg0 c1024_i32
  let c0_i32_12 : BitVec 32 := 0#32
  let c1_i32 : BitVec 32 := 1#32
  let arg11 : BitVec 32 := Scf.iv c0_i32_12 c1_i32 k0_t1
  let c1_i32_42 : BitVec 32 := 1#32
  let v68 : BitVec 32 := Scalar.addi arg11 c1_i32_42
  let c128_i32_44 : BitVec 32 := 128#32
  let v70 : BitVec 32 := Scalar.muli v68 c128_i32_44
  let v71 : BitVec 32 := Scalar.addi v8 v70
  v71
def k0_off2 (k0_t1 : Fin k0_t1_loop.trips) : Fin 1 → Nat :=
  let c1_i32_43 : BitVec 32 := 1#32
  let c0_i32_12 : BitVec 32 := 0#32
  let c1_i32 : BitVec 32 := 1#32
  let arg11 : BitVec 32 := Scf.iv c0_i32_12 c1_i32 k0_t1
  let c2_i32 : BitVec 32 := 2#32
  let c0_i32_21 : BitVec 32 := 0#32
  let v21 : BitVec 1 := Scalar.cmpi .eq c2_i32 c0_i32_21
  let c1_i32_22 : BitVec 32 := 1#32
  let v22 : BitVec 32 := Scalar.select v21 c1_i32_22 c2_i32
  let v23 : BitVec 32 := Scalar.remsi arg11 v22
  let c0_i32_24 : BitVec 32 := 0#32
  let v25 : BitVec 1 := Scalar.cmpi .slt v23 c0_i32_24
  let c0_i32_25 : BitVec 32 := 0#32
  let v26 : BitVec 1 := Scalar.cmpi .slt v22 c0_i32_25
  let v27 : BitVec 1 := Scalar.xori v25 v26
  let c0_i32_23 : BitVec 32 := 0#32
  let v24 : BitVec 1 := Scalar.cmpi .ne v23 c0_i32_23
  let v28 : BitVec 1 := Scalar.andi v27 v24
  let v29 : BitVec 32 := Scalar.addi v23 v22
  let v30 : BitVec 32 := Scalar.select v28 v29 v23
  let v69 : BitVec 32 := Scalar.subi c1_i32_43 v30
  ![v69.toNat]
def k0_off3 (k0_t1 : Fin k0_t1_loop.trips) : Fin 3 → Nat :=
  let c1_i32_43 : BitVec 32 := 1#32
  let c0_i32_12 : BitVec 32 := 0#32
  let c1_i32 : BitVec 32 := 1#32
  let arg11 : BitVec 32 := Scf.iv c0_i32_12 c1_i32 k0_t1
  let c2_i32 : BitVec 32 := 2#32
  let c0_i32_21 : BitVec 32 := 0#32
  let v21 : BitVec 1 := Scalar.cmpi .eq c2_i32 c0_i32_21
  let c1_i32_22 : BitVec 32 := 1#32
  let v22 : BitVec 32 := Scalar.select v21 c1_i32_22 c2_i32
  let v23 : BitVec 32 := Scalar.remsi arg11 v22
  let c0_i32_24 : BitVec 32 := 0#32
  let v25 : BitVec 1 := Scalar.cmpi .slt v23 c0_i32_24
  let c0_i32_25 : BitVec 32 := 0#32
  let v26 : BitVec 1 := Scalar.cmpi .slt v22 c0_i32_25
  let v27 : BitVec 1 := Scalar.xori v25 v26
  let c0_i32_23 : BitVec 32 := 0#32
  let v24 : BitVec 1 := Scalar.cmpi .ne v23 c0_i32_23
  let v28 : BitVec 1 := Scalar.andi v27 v24
  let v29 : BitVec 32 := Scalar.addi v23 v22
  let v30 : BitVec 32 := Scalar.select v28 v29 v23
  let v69 : BitVec 32 := Scalar.subi c1_i32_43 v30
  let c0_i32_45 : BitVec 32 := 0#32
  let c0_i32_46 : BitVec 32 := 0#32
  ![v69.toNat, 0, 0]
def k0_off4 (i : grid0.Coords) (k0_t1 : Fin k0_t1_loop.trips) : Fin 2 → Nat :=
  let arg0 : BitVec 32 := BitVec.ofNat 32 (i 0).val
  let c1024_i32 : BitVec 32 := 1024#32
  let v8 : BitVec 32 := Scalar.muli arg0 c1024_i32
  let c0_i32_12 : BitVec 32 := 0#32
  let c1_i32 : BitVec 32 := 1#32
  let arg11 : BitVec 32 := Scf.iv c0_i32_12 c1_i32 k0_t1
  let c1_i32_42 : BitVec 32 := 1#32
  let v68 : BitVec 32 := Scalar.addi arg11 c1_i32_42
  let c128_i32_44 : BitVec 32 := 128#32
  let v70 : BitVec 32 := Scalar.muli v68 c128_i32_44
  let v71 : BitVec 32 := Scalar.addi v8 v70
  let v72 : BitVec 32 := v71
  let c0_i32_47 : BitVec 32 := 0#32
  ![v72.toNat, 0]
def k0_mult3 (i : grid0.Coords) (k0_t1 : Fin k0_t1_loop.trips) : BitVec 32 :=
  let arg0 : BitVec 32 := BitVec.ofNat 32 (i 0).val
  let c1024_i32 : BitVec 32 := 1024#32
  let v8 : BitVec 32 := Scalar.muli arg0 c1024_i32
  let c0_i32_12 : BitVec 32 := 0#32
  let c1_i32 : BitVec 32 := 1#32
  let arg11 : BitVec 32 := Scf.iv c0_i32_12 c1_i32 k0_t1
  let c128_i32 : BitVec 32 := 128#32
  let v35 : BitVec 32 := Scalar.muli arg11 c128_i32
  let v36 : BitVec 32 := Scalar.addi v8 v35
  v36
def k0_off5 (k0_t1 : Fin k0_t1_loop.trips) : Fin 1 → Nat :=
  let c0_i32_12 : BitVec 32 := 0#32
  let c1_i32 : BitVec 32 := 1#32
  let arg11 : BitVec 32 := Scf.iv c0_i32_12 c1_i32 k0_t1
  let c2_i32 : BitVec 32 := 2#32
  let c0_i32_21 : BitVec 32 := 0#32
  let v21 : BitVec 1 := Scalar.cmpi .eq c2_i32 c0_i32_21
  let c1_i32_22 : BitVec 32 := 1#32
  let v22 : BitVec 32 := Scalar.select v21 c1_i32_22 c2_i32
  let v23 : BitVec 32 := Scalar.remsi arg11 v22
  let c0_i32_24 : BitVec 32 := 0#32
  let v25 : BitVec 1 := Scalar.cmpi .slt v23 c0_i32_24
  let c0_i32_25 : BitVec 32 := 0#32
  let v26 : BitVec 1 := Scalar.cmpi .slt v22 c0_i32_25
  let v27 : BitVec 1 := Scalar.xori v25 v26
  let c0_i32_23 : BitVec 32 := 0#32
  let v24 : BitVec 1 := Scalar.cmpi .ne v23 c0_i32_23
  let v28 : BitVec 1 := Scalar.andi v27 v24
  let v29 : BitVec 32 := Scalar.addi v23 v22
  let v30 : BitVec 32 := Scalar.select v28 v29 v23
  ![v30.toNat]
def k0_off6 (k0_t1 : Fin k0_t1_loop.trips) : Fin 3 → Nat :=
  let c0_i32_12 : BitVec 32 := 0#32
  let c1_i32 : BitVec 32 := 1#32
  let arg11 : BitVec 32 := Scf.iv c0_i32_12 c1_i32 k0_t1
  let c2_i32 : BitVec 32 := 2#32
  let c0_i32_21 : BitVec 32 := 0#32
  let v21 : BitVec 1 := Scalar.cmpi .eq c2_i32 c0_i32_21
  let c1_i32_22 : BitVec 32 := 1#32
  let v22 : BitVec 32 := Scalar.select v21 c1_i32_22 c2_i32
  let v23 : BitVec 32 := Scalar.remsi arg11 v22
  let c0_i32_24 : BitVec 32 := 0#32
  let v25 : BitVec 1 := Scalar.cmpi .slt v23 c0_i32_24
  let c0_i32_25 : BitVec 32 := 0#32
  let v26 : BitVec 1 := Scalar.cmpi .slt v22 c0_i32_25
  let v27 : BitVec 1 := Scalar.xori v25 v26
  let c0_i32_23 : BitVec 32 := 0#32
  let v24 : BitVec 1 := Scalar.cmpi .ne v23 c0_i32_23
  let v28 : BitVec 1 := Scalar.andi v27 v24
  let v29 : BitVec 32 := Scalar.addi v23 v22
  let v30 : BitVec 32 := Scalar.select v28 v29 v23
  let c0_i32_29 : BitVec 32 := 0#32
  let c0_i32_30 : BitVec 32 := 0#32
  ![v30.toNat, 0, 0]
def k0_off7 (i : grid0.Coords) (k0_t1 : Fin k0_t1_loop.trips) : Fin 2 → Nat :=
  let arg0 : BitVec 32 := BitVec.ofNat 32 (i 0).val
  let c1024_i32 : BitVec 32 := 1024#32
  let v8 : BitVec 32 := Scalar.muli arg0 c1024_i32
  let c0_i32_12 : BitVec 32 := 0#32
  let c1_i32 : BitVec 32 := 1#32
  let arg11 : BitVec 32 := Scf.iv c0_i32_12 c1_i32 k0_t1
  let c128_i32 : BitVec 32 := 128#32
  let v35 : BitVec 32 := Scalar.muli arg11 c128_i32
  let v36 : BitVec 32 := Scalar.addi v8 v35
  let v37 : BitVec 32 := v36
  let c0_i32_31 : BitVec 32 := 0#32
  ![v37.toNat, 0]
def k0_off8 (k0_t1 : Fin k0_t1_loop.trips) : Fin 3 → Nat :=
  let c0_i32_12 : BitVec 32 := 0#32
  let c1_i32 : BitVec 32 := 1#32
  let arg11 : BitVec 32 := Scf.iv c0_i32_12 c1_i32 k0_t1
  let c2_i32 : BitVec 32 := 2#32
  let c0_i32_21 : BitVec 32 := 0#32
  let v21 : BitVec 1 := Scalar.cmpi .eq c2_i32 c0_i32_21
  let c1_i32_22 : BitVec 32 := 1#32
  let v22 : BitVec 32 := Scalar.select v21 c1_i32_22 c2_i32
  let v23 : BitVec 32 := Scalar.remsi arg11 v22
  let c0_i32_24 : BitVec 32 := 0#32
  let v25 : BitVec 1 := Scalar.cmpi .slt v23 c0_i32_24
  let c0_i32_25 : BitVec 32 := 0#32
  let v26 : BitVec 1 := Scalar.cmpi .slt v22 c0_i32_25
  let v27 : BitVec 1 := Scalar.xori v25 v26
  let c0_i32_23 : BitVec 32 := 0#32
  let v24 : BitVec 1 := Scalar.cmpi .ne v23 c0_i32_23
  let v28 : BitVec 1 := Scalar.andi v27 v24
  let v29 : BitVec 32 := Scalar.addi v23 v22
  let v30 : BitVec 32 := Scalar.select v28 v29 v23
  let v43 : Index := Scalar.indexCast v30
  let c0_32 : Index := 0#32
  let c0_33 : Index := 0#32
  ![v43.toNat, 0, 0]
def k0_mult4 (k0_t1 : Fin k0_t1_loop.trips) : BitVec 32 :=
  let c0_i32_37 : BitVec 32 := 0#32
  let c0_i32_12 : BitVec 32 := 0#32
  let c1_i32 : BitVec 32 := 1#32
  let arg11 : BitVec 32 := Scf.iv c0_i32_12 c1_i32 k0_t1
  let c128_i32_36 : BitVec 32 := 128#32
  let v51 : BitVec 32 := Scalar.muli arg11 c128_i32_36
  let v52 : BitVec 32 := Scalar.addi c0_i32_37 v51
  v52
def k0_off9 (k0_t1 : Fin k0_t1_loop.trips) : Fin 2 → Nat :=
  let c0_i32_37 : BitVec 32 := 0#32
  let c0_i32_12 : BitVec 32 := 0#32
  let c1_i32 : BitVec 32 := 1#32
  let arg11 : BitVec 32 := Scf.iv c0_i32_12 c1_i32 k0_t1
  let c128_i32_36 : BitVec 32 := 128#32
  let v51 : BitVec 32 := Scalar.muli arg11 c128_i32_36
  let v52 : BitVec 32 := Scalar.addi c0_i32_37 v51
  let v53 : BitVec 32 := v52
  let v64 : Index := Scalar.indexCast v53
  let c0_41 : Index := 0#32
  ![v64.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S16384x4096 : Shape := ⟨2, ![16384, 4096]⟩
abbrev S4096 : Shape := ⟨1, ![4096]⟩
abbrev S4096x24576 : Shape := ⟨2, ![4096, 24576]⟩
abbrev S128x4096 : Shape := ⟨2, ![128, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x24576 : Shape := ⟨2, ![16384, 24576]⟩
abbrev S4096x128 : Shape := ⟨2, ![4096, 128]⟩
abbrev S16384x128 : Shape := ⟨2, ![16384, 128]⟩
abbrev S128x16384 : Shape := ⟨2, ![128, 16384]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x24576, .bf16⟩
  | .hbm, ⟨3, _⟩ => ⟨S128x4096, .bf16⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S4096x24576, .f32⟩
  | .hbm, ⟨21, _⟩ => ⟨S16384x24576, .f32⟩
  | .hbm, ⟨22, _⟩ => ⟨S128x4096, .f32⟩
  | .hbm, ⟨23, _⟩ => ⟨S4096x128, .f32⟩
  | .hbm, ⟨24, _⟩ => ⟨S16384x128, .f32⟩
  | .hbm, ⟨25, _⟩ => ⟨S16384x24576, .bf16⟩
  | .hbm, ⟨26, _⟩ => ⟨S128x16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Merge.lean ====
abbrev S16384x4096 : Shape := ⟨2, ![16384, 4096]⟩
abbrev S4096x4096 : Shape := ⟨2, ![4096, 4096]⟩
abbrev S16384x24576 : Shape := ⟨2, ![16384, 24576]⟩
abbrev S8192 : Shape := ⟨1, ![8192]⟩
abbrev S1x8192 : Shape := ⟨2, ![1, 8192]⟩
abbrev S4096x512 : Shape := ⟨2, ![4096, 512]⟩
abbrev S1024x4096 : Shape := ⟨2, ![1024, 4096]⟩
abbrev S1024x512 : Shape := ⟨2, ![1024, 512]⟩
abbrev S1x512 : Shape := ⟨2, ![1, 512]⟩

abbrev nBuf : Space → Nat
  | .hbm => 8
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .bf16⟩
  | .hbm, ⟨3, _⟩ => ⟨S4096x4096, .bf16⟩
  | .hbm, ⟨4, _⟩ => ⟨S16384x24576, .bf16⟩
  | .hbm, ⟨5, _⟩ => ⟨S8192, .f32⟩
  | .hbm, ⟨6, _⟩ => ⟨S1x8192, .f32⟩
  | .hbm, ⟨7, _⟩ => ⟨S16384x4096, .bf16⟩
  | .local _ .vmem, ⟨0, _⟩ => ⟨S4096x512, .bf16⟩
  | .local _ .vmem, ⟨1, _⟩ => ⟨S4096x512, .bf16⟩
  | .local _ .vmem, ⟨2, _⟩ => ⟨S1024x4096, .bf16⟩
  | .local _ .vmem, ⟨3, _⟩ => ⟨S1024x4096, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S16384x4096 : Shape := ⟨2, ![16384, 4096]⟩
abbrev S4096x4096 : Shape := ⟨2, ![4096, 4096]⟩
abbrev S16384x24576 : Shape := ⟨2, ![16384, 24576]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .bf16⟩
  | .hbm, ⟨3, _⟩ => ⟨S4096x4096, .bf16⟩
  | .hbm, ⟨4, _⟩ => ⟨S16384x24576, .bf16⟩
  | .hbm, ⟨5, _⟩ => ⟨S8192, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | .hbm, ⟨10, _⟩ => ⟨S4096x4096, .f32⟩
  | .hbm, ⟨11, _⟩ => ⟨S16384x4096, .f32⟩
  | .hbm, ⟨12, _⟩ => ⟨S16384x8192, .bf16⟩
  | .hbm, ⟨13, _⟩ => ⟨S16384x8192, .f32⟩
  | .hbm, ⟨14, _⟩ => ⟨S1x8192, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x4096 : Shape := ⟨2, ![16384, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownProj.lean ====
abbrev S16384x11264 : Shape := ⟨2, ![16384, 11264]⟩
abbrev S11264x4096 : Shape := ⟨2, ![11264, 4096]⟩
abbrev S16384x4096 : Shape := ⟨2, ![16384, 4096]⟩
abbrev S1024x11264 : Shape := ⟨2, ![1024, 11264]⟩
abbrev S11264x256 : Shape := ⟨2, ![11264, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x4096, .f32⟩
  | .local _ .vmem, ⟨0, _⟩ => ⟨S1024x11264, .bf16⟩
  | .local _ .vmem, ⟨1, _⟩ => ⟨S11264x256, .bf16⟩
  | .local _ .vmem, ⟨2, _⟩ => ⟨S11264x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11264 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11264x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownProjRefIdeal.lean ====
abbrev S16384x11264 : Shape := ⟨2, ![16384, 11264]⟩
abbrev S11264x4096 : Shape := ⟨2, ![11264, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x11264, .f32⟩
  | .hbm, ⟨4, _⟩ => ⟨S11264x4096, .f32⟩
  | .hbm, ⟨5, _⟩ => ⟨S16384x4096, .f32⟩
  | .hbm, ⟨6, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Merge.lean ====
/- The merge of the two branches: every point writes a block of the sum of the two branches' products, each times its gate, and the reference is
   that sum. -/
module

public import proofs.«01_k».proof.Defs
public import proofs.«01_k».proof.Proof.Gen.MergeIdeal.Value
public import proofs.«01_k».proof.Proof.Gen.MergeRefIdeal.Run
public import Idealize.ShloMosaic.Lib.Pointwise
public import Idealize.ShloMosaic.Lib.Pipeline.ValueKit

@[expose] public section

set_option maxRecDepth 16384

noncomputable section

namespace Cert.MergeIdeal.Value

open Idealize.ShloMosaic Idealize.ShloMosaic.TcCoe Idealize.SL.Sem Cert.MergeIdeal Cert.MergeIdeal.Gen

/-- A row and a column of the two branches' products, each under its gate. -/
def merged (hn fr : Vec Ideal S16384x4096 .bf16) (wm wf : Vec Ideal S4096x4096 .bf16) (p : Vec Ideal S16384x24576 .bf16) (b : Vec Ideal S8192 .f32)
    (i : Fin 16384) (j : Fin 4096) : EReal :=
  Ideal.logistic (p (ix2 i ⟨16384 + j.val, by omega⟩) + b (ix1 ⟨j.val, by omega⟩)) * (∑ k : Fin 4096, hn (ix2 i k) * wm (ix2 k j))
    + Ideal.logistic (p (ix2 i ⟨20480 + j.val, by omega⟩) + b (ix1 ⟨4096 + j.val, by omega⟩)) * (∑ k : Fin 4096, fr (ix2 i k) * wf (ix2 k j))

/-- What the body computes of its blocks, at an index. -/
theorem body_at (wm : Vec Ideal S4096x512 .bf16) (hn fr : Vec Ideal S1024x4096 .bf16) (wf : Vec Ideal S4096x512 .bf16)
    (gm gf : Vec Ideal S1024x512 .bf16) (bm bf : Vec Ideal S1x512 .f32) (i : Fin 1024) (j : Fin 512) :
    out0_8 wm hn fr wf gm gf bm bf (ix2 i j)
      = Ideal.logistic (gm (ix2 i j) + bm (ix2 0 j)) * (∑ k : Fin 4096, hn (ix2 i k) * wm (ix2 k j))
        + Ideal.logistic (gf (ix2 i j) + bf (ix2 0 j)) * (∑ k : Fin 4096, fr (ix2 i k) * wf (ix2 k j)) := by
  unfold out0_8
  frame_out
  pointwise [k0_pay1]

theorem idx_val : ∀ t : Fin cfg0.N, win0_0.index t = ![0, t.val % 8] ∧ win0_1.index t = ![t.val / 8, 0] ∧ win0_2.index t = ![t.val / 8, 0]
    ∧ win0_3.index t = ![0, t.val % 8] ∧ win0_4.index t = ![t.val / 8, 32 + t.val % 8] ∧ win0_5.index t = ![t.val / 8, 40 + t.val % 8]
    ∧ win0_6.index t = ![0, t.val % 8] ∧ win0_7.index t = ![0, 8 + t.val % 8] ∧ win0_8.index t = ![t.val / 8, t.val % 8] :=
  (by decide +kernel : ∀ t : Fin grid0.N, _)

variable (m : (ℓ : Loc nD τ sig) → Buf (Elt Ideal) ℓ) (c : Dev nD)

/-- A vector made into a row. -/
theorem row_at {α : Type} {a : ℕ} (x : (⟨1, ![a]⟩ : Shape).Idx → α) (h : (⟨1, ![a]⟩ : Shape).ShapeCasts ⟨2, ![1, a]⟩) (j : Fin a) :
    shapeCast ⟨2, ![1, a]⟩ x h (ix2 0 j) = x (ix1 j) :=
  shapeCast_apply x h _ _ (by
    rw [Shape.rowMajor_val_one, Shape.rowMajor_val_two]
    show j.val = 0 * a + j.val
    omega)

/-- The biases as a row. -/
theorem bias_at (j : Fin 8192) : (V m c main_v0 : Vec Ideal S1x8192 .f32) (ix2 0 j) = (m (c.tc.loc main_arg5) : Vec Ideal S8192 .f32) (ix1 j) := by
  have h : (V m c main_v0 : Vec Ideal S1x8192 .f32) = shapeCast S1x8192 (m (c.tc.loc main_arg5) : Vec Ideal S8192 .f32) shapeCasts_S8192_S1x8192 := by
    unfold V hostOps0
    after_results
    rfl
  rw [h]
  generalize (m (c.tc.loc main_arg5) : Vec Ideal S8192 .f32) = b
  exact row_at (a := 8192) b _ j

/-- The array the call leaves. -/
theorem array : (dats m 0 c).arrAt 8 cfg0.N
    = fun e => merged (m (c.tc.loc main_arg0)) (m (c.tc.loc main_arg1)) (m (c.tc.loc main_arg2)) (m (c.tc.loc main_arg3)) (m (c.tc.loc main_arg4))
        (m (c.tc.loc main_arg5)) (e 0) (e 1) := by
  refine (dats m 0 c).arrAt_eq_of_covers 8 _ (by decide +kernel) fun t hf y => ?_
  have g0 : (((cfg0.win 8).blk t).view.emb y 0 : ℕ) = t.val / 8 * 1024 + (y 0 : ℕ) := by blk_simp [idx_val t]
  have g1 : (((cfg0.win 8).blk t).view.emb y 1 : ℕ) = t.val % 8 * 512 + (y 1 : ℕ) := by blk_simp [idx_val t]
  rw [cast_eq, after0_8]
  generalize ((cfg0.win 8).blk t).view.emb y = z at g0 g1 ⊢
  idx_vars y
  idx_vars z
  have e := body_at (iblk m c 0 t) (iblk m c 1 t) (iblk m c 2 t) (iblk m c 3 t) (iblk m c 4 t) (iblk m c 5 t) (iblk m c 6 t) (iblk m c 7 t) y0 y1
  refine e.trans ?_
  show _ = merged _ _ _ _ _ _ z0 z1
  unfold merged
  have g0 : z0.val = t.val / 8 * 1024 + y0.val := g0
  have g1 : z1.val = t.val % 8 * 512 + y1.val := g1
  rw [← bias_at m c, ← bias_at m c, ← V_main_arg0 m c, ← V_main_arg1 m c, ← V_main_arg2 m c, ← V_main_arg3 m c, ← V_main_arg4 m c]
  refine congrArg₂ (· + ·)
    (congrArg₂ (· * ·) (congrArg Ideal.logistic (congrArg₂ (· + ·) ?_ ?_)) (Finset.sum_congr rfl fun k _ => congrArg₂ (· * ·) ?_ ?_))
    (congrArg₂ (· * ·) (congrArg Ideal.logistic (congrArg₂ (· + ·) ?_ ?_)) (Finset.sum_congr rfl fun k _ => congrArg₂ (· * ·) ?_ ?_))
  all_goals blk_ext [iblk, idx_val t]

end Cert.MergeIdeal.Value

namespace Cert.MergeRefIdeal.Value

open Idealize.ShloMosaic Idealize.ShloMosaic.TcCoe Idealize.SL.Sem Cert.MergeRefIdeal Cert.MergeRefIdeal.Gen

/-- The reference at an index. -/
theorem plain_at (x0 x1 : Vec Ideal S16384x4096 .bf16) (x2 x3 : Vec Ideal S4096x4096 .bf16)
    (x4 : Vec Ideal S16384x24576 .bf16) (x5 : Vec Ideal S8192 .f32) (e : S16384x4096.Idx) :
    (truncf .bf16 (addf (mulf (extractStridedSlice S16384x4096 ![0, 0] (Host.divf (broadcastInDim S16384x8192 ![] bcast_S_S16384x8192 (constant S_ .f32 0x3F800000#32)) (addf (broadcastInDim S16384x8192 ![] bcast_S_S16384x8192 (constant S_ .f32 0x3F800000#32)) (Host.exp (Host.negf (addf (extf .f32 (extractStridedSlice S16384x8192 ![0, 16384] x4 slices_S16384x24576_S16384x8192_0_16384) bitsLt_bf16_f32) (broadcastInDim S16384x8192 ![0, 1] bcast_S1x8192_S16384x8192_0_1 (broadcastInDim S1x8192 ![1] bcast_S8192_S1x8192_1 x5))))))) slices_S16384x8192_S16384x4096_0_0) (Host.dotGeneral dot_S16384x4096_S4096x4096_S16384x4096_1_0_0_1_n_n none (extf .f32 x0 bitsLt_bf16_f32) (extf .f32 x2 bitsLt_bf16_f32))) (mulf (extractStridedSlice S16384x4096 ![0, 4096] (Host.divf (broadcastInDim S16384x8192 ![] bcast_S_S16384x8192 (constant S_ .f32 0x3F800000#32)) (addf (broadcastInDim S16384x8192 ![] bcast_S_S16384x8192 (constant S_ .f32 0x3F800000#32)) (Host.exp (Host.negf (addf (extf .f32 (extractStridedSlice S16384x8192 ![0, 16384] x4 slices_S16384x24576_S16384x8192_0_16384) bitsLt_bf16_f32) (broadcastInDim S16384x8192 ![0, 1] bcast_S1x8192_S16384x8192_0_1 (broadcastInDim S1x8192 ![1] bcast_S8192_S1x8192_1 x5))))))) slices_S16384x8192_S16384x4096_0_4096) (Host.dotGeneral dot_S16384x4096_S4096x4096_S16384x4096_1_0_0_1_n_n none (extf .f32 x1 bitsLt_bf16_f32) (extf .f32 x3 bitsLt_bf16_f32)))) bitsLt_bf16_f32 : FVec Ideal S16384x4096 .bf16) e
      = Cert.MergeIdeal.Value.merged x0 x1 x2 x3 x4 x5 (e 0) (e 1) := by
  idx_vars e
  pointwise
  unfold Cert.MergeIdeal.Value.merged Ideal.logistic
  have e : (⟨16384 + (4096 + e1.val), by omega⟩ : Fin 24576) = ⟨20480 + e1.val, by omega⟩ := Fin.ext (by dsimp only; omega)
  rw [e]

end Cert.MergeRefIdeal.Value

namespace Cert.Proof

open Idealize.ShloMosaic Idealize.ShloMosaic.TcCoe Idealize.SL.Sem

/-- The reference keeps its arguments, and declares no semaphore. -/
theorem merge_reference_frame : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

/-- The merge's call and its reference return one array. -/
theorem merge_equal : Cert.algebraic_MergeIdeal_MergeRefIdeal := by
  intro m g m' g' _ hargs
  refine ⟨fun c e => Cert.MergeIdeal.Value.merged (m (c.tc.loc Cert.MergeIdeal.main_arg0)) (m (c.tc.loc Cert.MergeIdeal.main_arg1))
    (m (c.tc.loc Cert.MergeIdeal.main_arg2)) (m (c.tc.loc Cert.MergeIdeal.main_arg3)) (m (c.tc.loc Cert.MergeIdeal.main_arg4))
    (m (c.tc.loc Cert.MergeIdeal.main_arg5)) (e 0) (e 1), ?_, ?_⟩
  · refine (θ_run _ _ _).mono (fun r h c => ?_) (Cert.MergeIdeal.Value.run_blocks (F := Ideal) m g)
    exact ⟨(h c).1.trans (Cert.MergeIdeal.Value.array m c), (h c).2⟩
  · refine (θ_run _ _ _).mono (fun r h c => ?_) (Cert.MergeRefIdeal.Value.run (F := Ideal) m' g')
    obtain ⟨e0, e1, e2, e3, e4, e5⟩ := hargs c
    refine ⟨(h c).1.trans ?_, (h c).2⟩
    rw [e0, e1, e2, e3, e4, e5]
    exact funext (Cert.MergeRefIdeal.Value.plain_at _ _ _ _ _ _)

end Cert.Proof

end
-- ==== Proof.OutProj.lean ====
/- The output projection with its residual: every point writes a block of the array of row-by-column products added to the residual, and the reference
   is that array. -/
module

public import proofs.«01_k».proof.Defs
public import proofs.«01_k».proof.Proof.Gen.OutProjIdeal.Value
public import proofs.«01_k».proof.Proof.Gen.OutProjRefIdeal.Run
public import Idealize.ShloMosaic.Lib.Pointwise
public import Idealize.ShloMosaic.Lib.Pipeline.ValueKit

@[expose] public section

set_option maxRecDepth 16384

noncomputable section

namespace Cert.OutProjIdeal.Value

open Idealize.ShloMosaic Idealize.ShloMosaic.TcCoe Idealize.SL.Sem Cert.OutProjIdeal Cert.OutProjIdeal.Gen

/-- The residual plus the product of a row and a column. -/
def sumRow (a : Vec Ideal S16384x4096 .bf16) (w : Vec Ideal S4096x4096 .bf16) (r : Vec Ideal S16384x4096 .f32) (i : Fin 16384) (j : Fin 4096) : EReal :=
  r (ix2 i j) + ∑ k : Fin 4096, a (ix2 i k) * w (ix2 k j)

/-- What the body computes of its three blocks, at an index. -/
theorem body_at (a : Vec Ideal S1024x4096 .bf16) (w : Vec Ideal S4096x512 .bf16) (r : Vec Ideal S1024x512 .f32) (i : Fin 1024) (j : Fin 512) :
    out0_3 a w r (ix2 i j) = r (ix2 i j) + ∑ k : Fin 4096, a (ix2 i k) * w (ix2 k j) := by
  unfold out0_3
  frame_out
  pointwise [k0_pay1]

theorem idx_val : ∀ t : Fin cfg0.N, win0_0.index t = ![t.val / 8, 0] ∧ win0_1.index t = ![0, t.val % 8] ∧ win0_2.index t = ![t.val / 8, t.val % 8]
    ∧ win0_3.index t = ![t.val / 8, t.val % 8] :=
  (by decide +kernel : ∀ t : Fin grid0.N, _)

variable (m : (ℓ : Loc nD τ sig) → Buf (Elt Ideal) ℓ) (c : Dev nD)

/-- The array the call leaves. -/
theorem array : (dats m 0 c).arrAt 3 cfg0.N
    = fun e => sumRow (m (c.tc.loc main_arg0)) (m (c.tc.loc main_arg1)) (m (c.tc.loc main_arg2)) (e 0) (e 1) := by
  refine (dats m 0 c).arrAt_eq_of_covers 3 _ (by decide +kernel) fun t hf y => ?_
  have g0 : (((cfg0.win 3).blk t).view.emb y 0 : ℕ) = t.val / 8 * 1024 + (y 0 : ℕ) := by blk_simp [idx_val t]
  have g1 : (((cfg0.win 3).blk t).view.emb y 1 : ℕ) = t.val % 8 * 512 + (y 1 : ℕ) := by blk_simp [idx_val t]
  rw [cast_eq, after0_3]
  generalize ((cfg0.win 3).blk t).view.emb y = z at g0 g1 ⊢
  idx_vars y
  idx_vars z
  have e := body_at (iblk m c 0 t) (iblk m c 1 t) (iblk m c 2 t) y0 y1
  refine e.trans ?_
  show _ = sumRow _ _ _ z0 z1
  unfold sumRow
  have g0 : z0.val = t.val / 8 * 1024 + y0.val := g0
  have g1 : z1.val = t.val % 8 * 512 + y1.val := g1
  refine congrArg₂ (· + ·) ?_ (Finset.sum_congr rfl fun k _ => congrArg₂ (· * ·) ?_ ?_)
  · blk_ext [iblk, V, idx_val t]
  · blk_ext [iblk, V, idx_val t]
  · blk_ext [iblk, V, idx_val t]

/-- The reference at an index. -/
theorem plain_at (a : Vec Ideal Cert.OutProjRefIdeal.S16384x4096 .bf16) (w : Vec Ideal Cert.OutProjRefIdeal.S4096x4096 .bf16)
    (r : FVec Ideal Cert.OutProjRefIdeal.S16384x4096 .f32) (e : Cert.OutProjRefIdeal.S16384x4096.Idx) :
    addf r (Host.dotGeneral Cert.OutProjRefIdeal.dot_S16384x4096_S4096x4096_S16384x4096_1_0_0_1_n_n none
      (extf .f32 a Cert.OutProjRefIdeal.Gen.bitsLt_bf16_f32) (extf .f32 w Cert.OutProjRefIdeal.Gen.bitsLt_bf16_f32)) e
    = sumRow a w r (e 0) (e 1) := by
  idx_vars e
  pointwise
  rfl

end Cert.OutProjIdeal.Value

namespace Cert.Proof

open Idealize.ShloMosaic Idealize.ShloMosaic.TcCoe Idealize.SL.Sem

/-- The reference keeps its arguments, and declares no semaphore. -/
theorem out_proj_reference_frame : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

/-- The output projection's call and its reference return one array. -/
theorem out_proj_equal : Cert.algebraic_OutProjIdeal_OutProjRefIdeal := by
  intro m g m' g' _ hargs
  refine ⟨fun c e => Cert.OutProjIdeal.Value.sumRow (m (c.tc.loc Cert.OutProjIdeal.main_arg0)) (m (c.tc.loc Cert.OutProjIdeal.main_arg1))
    (m (c.tc.loc Cert.OutProjIdeal.main_arg2)) (e 0) (e 1), ?_, ?_⟩
  · refine (θ_run _ _ _).mono (fun r h c => ?_) (Cert.OutProjIdeal.Value.run_blocks (F := Ideal) m g)
    exact ⟨(h c).1.trans (Cert.OutProjIdeal.Value.array m c), (h c).2⟩
  · refine (θ_run _ _ _).mono (fun r h c => ?_) (Cert.OutProjRefIdeal.Value.run (F := Ideal) m' g')
    obtain ⟨e0, e1, e2⟩ := hargs c
    refine ⟨(h c).1.trans ?_, (h c).2⟩
    rw [e0, e1, e2]
    exact funext (Cert.OutProjIdeal.Value.plain_at _ _ _)

end Cert.Proof

end
-- ==== Proof.DownProj.lean ====
/- The down projection of the feed-forward part with its residual: every point writes a block of the array of row-by-column products added to the residual, and the reference
   is that array. -/
module

public import proofs.«01_k».proof.Defs
public import proofs.«01_k».proof.Proof.Gen.DownProjIdeal.Value
public import proofs.«01_k».proof.Proof.Gen.DownProjRefIdeal.Run
public import Idealize.ShloMosaic.Lib.Pointwise
public import Idealize.ShloMosaic.Lib.Pipeline.ValueKit

@[expose] public section

set_option maxRecDepth 16384

noncomputable section

namespace Cert.DownProjIdeal.Value

open Idealize.ShloMosaic Idealize.ShloMosaic.TcCoe Idealize.SL.Sem Cert.DownProjIdeal Cert.DownProjIdeal.Gen

/-- The residual plus the product of a row and a column. -/
def sumRow (a : Vec Ideal S16384x11264 .bf16) (w : Vec Ideal S11264x4096 .bf16) (r : Vec Ideal S16384x4096 .f32) (i : Fin 16384) (j : Fin 4096) : EReal :=
  r (ix2 i j) + ∑ k : Fin 11264, a (ix2 i k) * w (ix2 k j)

/-- What the body computes of its three blocks, at an index. -/
theorem body_at (a : Vec Ideal S1024x11264 .bf16) (w : Vec Ideal S11264x256 .bf16) (r : Vec Ideal S1024x256 .f32) (i : Fin 1024) (j : Fin 256) :
    out0_3 a w r (ix2 i j) = r (ix2 i j) + ∑ k : Fin 11264, a (ix2 i k) * w (ix2 k j) := by
  unfold out0_3
  frame_out
  pointwise [k0_pay1]

theorem idx_val : ∀ t : Fin cfg0.N, win0_0.index t = ![t.val / 16, 0] ∧ win0_1.index t = ![0, t.val % 16] ∧ win0_2.index t = ![t.val / 16, t.val % 16]
    ∧ win0_3.index t = ![t.val / 16, t.val % 16] :=
  (by decide +kernel : ∀ t : Fin grid0.N, _)

variable (m : (ℓ : Loc nD τ sig) → Buf (Elt Ideal) ℓ) (c : Dev nD)

/-- The array the call leaves. -/
theorem array : (dats m 0 c).arrAt 3 cfg0.N
    = fun e => sumRow (m (c.tc.loc main_arg0)) (m (c.tc.loc main_arg1)) (m (c.tc.loc main_arg2)) (e 0) (e 1) := by
  refine (dats m 0 c).arrAt_eq_of_covers 3 _ (by decide +kernel) fun t hf y => ?_
  have g0 : (((cfg0.win 3).blk t).view.emb y 0 : ℕ) = t.val / 16 * 1024 + (y 0 : ℕ) := by blk_simp [idx_val t]
  have g1 : (((cfg0.win 3).blk t).view.emb y 1 : ℕ) = t.val % 16 * 256 + (y 1 : ℕ) := by blk_simp [idx_val t]
  rw [cast_eq, after0_3]
  generalize ((cfg0.win 3).blk t).view.emb y = z at g0 g1 ⊢
  idx_vars y
  idx_vars z
  have e := body_at (iblk m c 0 t) (iblk m c 1 t) (iblk m c 2 t) y0 y1
  refine e.trans ?_
  show _ = sumRow _ _ _ z0 z1
  unfold sumRow
  have g0 : z0.val = t.val / 16 * 1024 + y0.val := g0
  have g1 : z1.val = t.val % 16 * 256 + y1.val := g1
  refine congrArg₂ (· + ·) ?_ (Finset.sum_congr rfl fun k _ => congrArg₂ (· * ·) ?_ ?_)
  · blk_ext [iblk, V, idx_val t]
  · blk_ext [iblk, V, idx_val t]
  · blk_ext [iblk, V, idx_val t]

/-- The reference at an index. -/
theorem plain_at (a : Vec Ideal Cert.DownProjRefIdeal.S16384x11264 .bf16) (w : Vec Ideal Cert.DownProjRefIdeal.S11264x4096 .bf16)
    (r : FVec Ideal Cert.DownProjRefIdeal.S16384x4096 .f32) (e : Cert.DownProjRefIdeal.S16384x4096.Idx) :
    addf r (Host.dotGeneral Cert.DownProjRefIdeal.dot_S16384x11264_S11264x4096_S16384x4096_1_0_0_1_n_n none
      (extf .f32 a Cert.DownProjRefIdeal.Gen.bitsLt_bf16_f32) (extf .f32 w Cert.DownProjRefIdeal.Gen.bitsLt_bf16_f32)) e
    = sumRow a w r (e 0) (e 1) := by
  idx_vars e
  pointwise
  rfl

end Cert.DownProjIdeal.Value

namespace Cert.Proof

open Idealize.ShloMosaic Idealize.ShloMosaic.TcCoe Idealize.SL.Sem

/-- The reference keeps its arguments, and declares no semaphore. -/
theorem down_proj_reference_frame : Cert.quiescent_DownProjRefIdeal := fun m g _ =>
  (θ_run Cert.DownProjRefIdeal.defs _ _).mono (fun r h => ⟨fun c => (h c).2, sem_eq_zero_of_no_sems (by decide) r.2⟩)
    (Cert.DownProjRefIdeal.Value.run (F := Ideal) m g)

/-- The down projection's call and its reference return one array. -/
theorem down_proj_equal : Cert.algebraic_DownProjIdeal_DownProjRefIdeal := by
  intro m g m' g' _ hargs
  refine ⟨fun c e => Cert.DownProjIdeal.Value.sumRow (m (c.tc.loc Cert.DownProjIdeal.main_arg0)) (m (c.tc.loc Cert.DownProjIdeal.main_arg1))
    (m (c.tc.loc Cert.DownProjIdeal.main_arg2)) (e 0) (e 1), ?_, ?_⟩
  · refine (θ_run _ _ _).mono (fun r h c => ?_) (Cert.DownProjIdeal.Value.run_blocks (F := Ideal) m g)
    exact ⟨(h c).1.trans (Cert.DownProjIdeal.Value.array m c), (h c).2⟩
  · refine (θ_run _ _ _).mono (fun r h c => ?_) (Cert.DownProjRefIdeal.Value.run (F := Ideal) m' g')
    obtain ⟨e0, e1, e2⟩ := hargs c
    refine ⟨(h c).1.trans ?_, (h c).2⟩
    rw [e0, e1, e2]
    exact funext (Cert.DownProjIdeal.Value.plain_at _ _ _)

end Cert.Proof

end
-- ==== Proof.InProjRing.lean ====
/- The input projection's transfers: the rows of a group come in 128 at a time, into two slots in turn. Here are the names of the blocks, the slots and
   their semaphores, what a transfer under way holds, and one trip of the loop. -/
module

public import proofs.«01_k».proof.Proof.Gen.InProjIdeal.Loops
public import proofs.«01_k».proof.Proof.Gen.InProjIdeal.Launch
public import proofs.«01_k».proof.Proof.Gen.InProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjIdeal.Slots

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: those of the pipeline, and the counters that transfers ride on. -/
abbrev Res (F : FTy → Type) := MT nD τ sig Unit (Elt F) ℕ (Pipeline.UD sig nD τ) ℕ

/-! ## Blocks, slots, semaphores -/

/-- The rows, in main memory; the normed rows of the group at hand; the two slots. -/
abbrev aM : Memref sig .tc .hbm S16384x4096 .f32 := Memref.whole main_arg0
abbrev xnM : Memref sig .tc .vmem S1024x4096 .bf16 := Memref.whole cc0_scratch0
abbrev bufM : Memref sig .tc .vmem S2x128x4096 .f32 := Memref.whole cc0_scratch1

abbrev blockOff (b : Fin 128) : Fin 2 → Nat := ![128 * b.val, 0]
theorem blockOff_inb (b : Fin 128) : ∀ a, blockOff b a + S128x4096.size a ≤ S16384x4096.size a := by
  have := b.isLt
  intro a
  fin_cases a
  · show 128 * b.val + 128 ≤ 16384; omega
  · show 0 + 4096 ≤ 4096; omega
abbrev slotOff (s : Fin 2) : Fin 3 → Nat := ![s.val, 0, 0]
theorem slotOff_inb (s : Fin 2) : ∀ a, slotOff s a + S1x128x4096.size a ≤ S2x128x4096.size a := by
  have := s.isLt
  intro a
  fin_cases a
  · show s.val + 1 ≤ 2; omega
  · show 0 + 128 ≤ 128; omega
  · show 0 + 4096 ≤ 4096; omega
abbrev cellOff (s : Fin 2) : Fin 1 → Nat := ![s.val]
theorem cellOff_inb (s : Fin 2) : ∀ a, cellOff s a + S1.size a ≤ S2.size a := by
  have := s.isLt
  intro a
  fin_cases a
  show s.val + 1 ≤ 2
  omega

/-- Block `b` of the rows. -/
def block (b : Fin 128) : Memref sig .tc .hbm S128x4096 .f32 :=
  aM.slice (Rect.unit (s := S16384x4096) (blockOff b) S128x4096.size (blockOff_inb b)) (fun _ => rfl)
/-- Slot `s`. -/
def slot (s : Fin 2) : Memref sig .tc .vmem S128x4096 .f32 :=
  (bufM.slice (Rect.unit (s := S2x128x4096) (slotOff s) S1x128x4096.size (slotOff_inb s)) (fun _ => rfl)).squeeze S128x4096 squeezes_S1x128x4096_S128x4096
/-- The semaphore of slot `s`. -/
def cell (s : Fin 2) : DmaSems sig S_ := (cc0_scratch2.slice (Rect.unit (s := S2) (cellOff s) S1.size (cellOff_inb s))).squeeze S_ squeezes_S1_S_

instance (s : Fin 2) : ClosedOff (slotOff s) := ⟨slotOff s, rfl⟩
instance (b : Fin 128) : ClosedOff (blockOff b) := ⟨blockOff b, rfl⟩

/-- The block that trip `k` of a group reads. -/
abbrev blk (i : grid0.Coords) (k : ℕ) : Fin 128 := Ring.bk 128 (8 * (i 0).val + k)

theorem trips_eq : k0_t1_loop.trips = 8 := by decide +kernel
theorem row_lt (i : grid0.Coords) : (i 0).val < 16 := (i 0).isLt
theorem blk_val (i : grid0.Coords) {k : ℕ} (hk : k < 8) : (blk i k).val = 8 * (i 0).val + k := Ring.bk_val (by have := row_lt i; omega)

theorem off2_eq : ∀ k : Fin k0_t1_loop.trips, k0_off2 k = cellOff (Ring.sl 2 (k.val + 1)) := by decide +kernel
theorem off3_eq : ∀ k : Fin k0_t1_loop.trips, k0_off3 k = slotOff (Ring.sl 2 (k.val + 1)) := by decide +kernel
theorem off5_eq : ∀ k : Fin k0_t1_loop.trips, k0_off5 k = cellOff (Ring.sl 2 k.val) := by decide +kernel
theorem off6_eq : ∀ k : Fin k0_t1_loop.trips, k0_off6 k = slotOff (Ring.sl 2 k.val) := by decide +kernel
theorem off8_eq : ∀ k : Fin k0_t1_loop.trips, k0_off8 k = slotOff (Ring.sl 2 k.val) := by decide +kernel
theorem cond2_iff : ∀ k : Fin k0_t1_loop.trips, k0_cond2 k = 1#1 ↔ k.val + 1 < 8 := by decide +kernel
theorem off1_eq (i : grid0.Coords) : k0_off1 i = blockOff (blk i 0) := by
  rw [k0_off1_eq]; unfold blockOff; rw [blk_val i (by omega)]
  congr 1; omega
theorem off4_eq (i : grid0.Coords) (k : Fin k0_t1_loop.trips) (hk : k.val + 1 < 8) : k0_off4 i k = blockOff (blk i (k.val + 1)) := by
  rw [k0_off4_eq]; unfold blockOff; rw [blk_val i hk]
  congr 1; omega
theorem off7_eq (i : grid0.Coords) (k : Fin k0_t1_loop.trips) : k0_off7 i k = blockOff (blk i k.val) := by
  have hk : k.val < 8 := trips_eq ▸ k.isLt
  rw [k0_off7_eq]; unfold blockOff; rw [blk_val i hk]
  congr 1; omega

theorem off8_inb (k : Fin k0_t1_loop.trips) : ∀ a, k0_off8 k a + S1x128x4096.size a ≤ S2x128x4096.size a := by
  rw [off8_eq k]; exact slotOff_inb _
theorem off9_inb (k : Fin k0_t1_loop.trips) : ∀ a, k0_off9 k a + S128x4096.size a ≤ S1024x4096.size a := by
  have hk : k.val < 8 := trips_eq ▸ k.isLt
  rw [k0_off9_eq k]
  intro a
  fin_cases a
  · show 128 * k.val + 128 ≤ 1024; omega
  · show 0 + 4096 ≤ 4096; omega

instance (k : Fin k0_t1_loop.trips) : ClosedOff (k0_off8 k) := ⟨slotOff (Ring.sl 2 k.val), off8_eq k⟩
instance (k : Fin k0_t1_loop.trips) : ClosedOff (k0_off6 k) := ⟨slotOff (Ring.sl 2 k.val), off6_eq k⟩
instance (k : Fin k0_t1_loop.trips) : ClosedOff (k0_off9 k) := ⟨![128 * k.val, 0], k0_off9_eq k⟩

/-! ## The slices the body prints, under these names -/

theorem cell_of {off : Fin 1 → Nat} {s : Fin 2} (e : off = cellOff s) (h) :
    (cc0_scratch2.slice (Rect.unit (s := S2) off S1.size h)).squeeze S_ squeezes_S1_S_ = cell s :=
  congrArg (fun A : DmaSems sig S1 => A.squeeze S_ squeezes_S1_S_) (SemArray.slice_unit_congr _ e _ _)
theorem slot_of {off : Fin 3 → Nat} {s : Fin 2} (e : off = slotOff s) (h hs) :
    (bufM.slice (Rect.unit (s := S2x128x4096) off S1x128x4096.size h) hs).squeeze S128x4096 squeezes_S1x128x4096_S128x4096 = slot s :=
  congrArg (fun M : Memref sig .tc .vmem S1x128x4096 .f32 => M.squeeze S128x4096 squeezes_S1x128x4096_S128x4096) (Memref.slice_unit_congr _ e _ _ _ _)
theorem block_of {off : Fin 2 → Nat} {b : Fin 128} (e : off = blockOff b) (h hs) :
    aM.slice (Rect.unit (s := S16384x4096) off S128x4096.size h) hs = block b := Memref.slice_unit_congr _ e _ _ _ (fun _ => rfl)

@[sl_canon] theorem cell_first (h) : (cc0_scratch2.slice (Rect.unit (s := S2) ![0] S1.size h)).squeeze S_ squeezes_S1_S_ = cell 0 := cell_of (by decide) _
@[sl_canon] theorem slot_first (h hs) :
    (bufM.slice (Rect.unit (s := S2x128x4096) ![0, 0, 0] S1x128x4096.size h) hs).squeeze S128x4096 squeezes_S1x128x4096_S128x4096 = slot 0 :=
  slot_of (by decide) _ _
@[sl_canon] theorem block_first (i : grid0.Coords) (h hs) : aM.slice (Rect.unit (s := S16384x4096) (k0_off1 i) S128x4096.size h) hs = block (blk i 0) :=
  block_of (off1_eq i) _ _
@[sl_canon] theorem cell_next (k : Fin k0_t1_loop.trips) (h) :
    (cc0_scratch2.slice (Rect.unit (s := S2) (k0_off2 k) S1.size h)).squeeze S_ squeezes_S1_S_ = cell (Ring.sl 2 (k.val + 1)) := cell_of (off2_eq k) _
@[sl_canon] theorem slot_next (k : Fin k0_t1_loop.trips) (h hs) :
    (bufM.slice (Rect.unit (s := S2x128x4096) (k0_off3 k) S1x128x4096.size h) hs).squeeze S128x4096 squeezes_S1x128x4096_S128x4096
      = slot (Ring.sl 2 (k.val + 1)) := slot_of (off3_eq k) _ _
@[sl_canon] theorem block_next (i : grid0.Coords) (k : Fin k0_t1_loop.trips) (hk : k.val + 1 < 8) (h hs) :
    aM.slice (Rect.unit (s := S16384x4096) (k0_off4 i k) S128x4096.size h) hs = block (blk i (k.val + 1)) := block_of (off4_eq i k hk) _ _
@[sl_canon] theorem cell_here (k : Fin k0_t1_loop.trips) (h) :
    (cc0_scratch2.slice (Rect.unit (s := S2) (k0_off5 k) S1.size h)).squeeze S_ squeezes_S1_S_ = cell (Ring.sl 2 k.val) := cell_of (off5_eq k) _
@[sl_canon] theorem slot_here (k : Fin k0_t1_loop.trips) (h hs) :
    (bufM.slice (Rect.unit (s := S2x128x4096) (k0_off6 k) S1x128x4096.size h) hs).squeeze S128x4096 squeezes_S1x128x4096_S128x4096
      = slot (Ring.sl 2 k.val) := slot_of (off6_eq k) _ _
@[sl_canon] theorem block_here (i : grid0.Coords) (k : Fin k0_t1_loop.trips) (h hs) :
    aM.slice (Rect.unit (s := S16384x4096) (k0_off7 i k) S128x4096.size h) hs = block (blk i k.val) := block_of (off7_eq i k) _ _

/-- A load of all of a view. -/
theorem readAt_full {sp : Space} {s : Shape} {e : EltTy} (v : View sig .tc sp s e) (f : v.ty.Contents (Elt F)) {off : Fin s.rank → ℕ}
    (inb : ∀ a, off a + s.size a ≤ s.size a) : v.readAt (Elt F) (Rect.unit off s.size inb).toLoadRect f = v.read (Elt F) f := by
  have h0 : off = fun _ => 0 := funext fun a => by have := inb a; omega
  subst h0
  funext j
  show v.read (Elt F) f _ = _
  congr 1
  funext a
  exact Fin.ext (by simp)

/-! ## What is held -/

section Held

variable (c : Dev nD) (XA : Buf (Elt F) (aM.view.loc (c : Thread nD τ)))

abbrev cellP (s : Fin 2) : sProp (Res F) := semVal ((c : Thread nD τ), SemLoc.dma (cell s).sem) 0
abbrev slotP (s : Fin 2) (f : Buf (Elt F) ((slot s).view.loc (c : Thread nD τ))) : sProp (Res F) :=
  (slot s).view.loc (c : Thread nD τ) ↦[(slot s).view.set]{fullShare} f
abbrev homeP (b : Fin 128) : sProp (Res F) := (block b).view.loc (c : Thread nD τ) ↦[(block b).view.set]{fullShare} XA
/-- The words of block `b`. -/
abbrev words (b : Fin 128) : S128x4096.Idx → Elt F .f32 := ReadAs.same.apply ((block b).view.read (Elt F) XA)
/-- Slot `s` with block `b` in it. -/
abbrev landed (s : Fin 2) (b : Fin 128) (f : Buf (Elt F) ((slot s).view.loc (c : Thread nD τ))) : Buf (Elt F) ((slot s).view.loc (c : Thread nD τ)) :=
  (slot s).view.writes (Elt F) f [⟨Rect.whole S128x4096, words c XA b⟩]
/-- Block `b` on its way into slot `s`. -/
abbrev flightP (s : Fin 2) (b : Fin 128) (f : Buf (Elt F) ((slot s).view.loc (c : Thread nD τ))) : sProp (Res F) :=
  Transfers.Flight countersEmb (c : Thread nD τ) (SemLoc.dma (cell s).sem) () 65536 iprop(slotP c s (landed c XA s b f) ∗ homeP c XA b)

/-- A slot at rest. -/
abbrev restP (s : Fin 2) : sProp (Res F) := iprop(cellP c s ∗ ∃ f, slotP c s f)

/-- Before trip `k`: that trip's block is on its way, the other slot is at rest; after the last trip both slots are. -/
def ringAt (i : grid0.Coords) (k : ℕ) : sProp (Res F) :=
  if k < 8 then iprop(bigSep (Finset.univ.erase (blk i k)) (homeP c XA) ∗ (∃ f, flightP c XA (Ring.sl 2 k) (blk i k) f) ∗ restP c (Ring.sl 2 (k + 1)))
  else iprop(bigSep Finset.univ (homeP c XA) ∗ restP c (Ring.sl 2 k) ∗ restP c (Ring.sl 2 (k + 1)))

/-- A block apart from the others. -/
theorem homes_take (S : Finset (Fin 128)) {b : Fin 128} (hb : b ∈ S) :
    bigSep S (homeP c XA) = iprop(homeP c XA b ∗ bigSep (S.erase b) (homeP c XA)) := by
  conv_lhs => rw [← Finset.insert_erase hb, bigSep_insert (Finset.notMem_erase b S)]
  rfl

theorem blk_ne (i : grid0.Coords) {k : ℕ} (hk : k + 1 < 8) : blk i (k + 1) ≠ blk i k := by
  intro h
  have := congrArg Fin.val h
  rw [blk_val i hk, blk_val i (by omega)] at this
  omega

end Held

end Cert.InProjIdeal.Slots

end
-- ==== Proof.InProjTrip.lean ====
/- One trip of the input projection's loop: the next block is sent for, this trip's block is waited for, and its normed rows are stored. -/
module

public import proofs.«01_k».proof.Proof.InProjRing

@[expose] public section

set_option maxRecDepth 16384

noncomputable section

namespace Cert.InProjIdeal.Slots

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What trip `k` of group `g` loads of its slot: the words of its block. -/
def loaded (c : Dev nD) (XA : Buf (Elt F) (aM.view.loc (c : Thread nD τ))) (g : ℕ) (k : Fin k0_t1_loop.trips) : Vec F S1x128x4096 .f32 :=
  View.readAt (Elt F) bufM.view (Rect.unit (s := S2x128x4096) (k0_off8 k) S1x128x4096.size (off8_inb k)).toLoadRect
    ((slot (Ring.sl 2 k.val)).view.writes (Elt F) (slot (Ring.sl 2 k.val)).view.junk [⟨Rect.whole S128x4096, words c XA (Ring.bk 128 (8 * g + k.val))⟩])

/-- What it stores: those rows, normed. -/
def stored (c : Dev nD) (XA : Buf (Elt F) (aM.view.loc (c : Thread nD τ))) (x0 : Vec F S1x4096 .f32) (g : ℕ) (k : Fin k0_t1_loop.trips) :
    Vec F S128x4096 .bf16 :=
  k0_pay1 (k0_pay4 (loaded c XA g k)) (k0_pay5 (loaded c XA g k)) x0

/-- The rows that trip `k` stores. -/
abbrev tripRect (k : Fin k0_t1_loop.trips) : Rect S1024x4096 := Rect.unit (s := S1024x4096) (k0_off9 k) S128x4096.size (off9_inb k)

/-- The stores of the trips before `k`, the latest first. -/
def pieces (c : Dev nD) (XA : Buf (Elt F) (aM.view.loc (c : Thread nD τ))) (x0 : Vec F S1x4096 .f32) (g : ℕ) :
    ℕ → List (View.Piece (Elt F) S1024x4096 .bf16)
  | 0 => []
  | k + 1 => if h : k < k0_t1_loop.trips then ⟨tripRect ⟨k, h⟩, stored c XA x0 g ⟨k, h⟩⟩ :: pieces c XA x0 g k else pieces c XA x0 g k

/-- The normed rows of group `g`. -/
def normed (c : Dev nD) (XA : Buf (Elt F) (aM.view.loc (c : Thread nD τ))) (x0 : Vec F S1x4096 .f32) (g : ℕ) : Vec F S1024x4096 .bf16 :=
  View.canon (pieces c XA x0 g k0_t1_loop.trips)

section Trip

variable (c : Dev nD) (XA : Buf (Elt F) (aM.view.loc (c : Thread nD τ))) (i : grid0.Coords)
  (arg3 : Memref sig .tc .vmem S1x4096 .f32) (harg3 : arg3.IsWhole) (arg4 : Memref sig .tc .vmem S4096x1024 .bf16) (harg4 : arg4.IsWhole)
  (arg5 : Memref sig .tc .vmem S128x4096 .bf16) (harg5 : arg5.IsWhole) (arg6 : Memref sig .tc .vmem S1024x1024 .bf16) (harg6 : arg6.IsWhole)
  (arg7 : Memref sig .tc .vmem S128x1024 .f32) (harg7 : arg7.IsWhole)
  (arg8 : Memref sig .tc .vmem S1024x4096 .bf16) (harg8 : arg8.IsWhole) (h1 : k0_cond1 i = 1#1) (v8 : BitVec 32)
  (x0 : Vec F S1x4096 .f32)

/-- Before trip `k`, with the normed rows so far at `fx`. -/
def resAt (k : ℕ) (fx : Buf (Elt F) (arg8.view.loc (c : Thread nD τ))) : sProp (Res F) :=
  iprop((arg3.view.loc (c : Thread nD τ) ↦[arg3.view.set]{fullShare} harg3.unread x0) ∗ (arg8.view.loc (c : Thread nD τ) ↦[arg8.view.set]{fullShare} fx)
    ∗ (∃ W, owes (c : Thread nD τ) 0 W) ∗ ringAt c XA i k)

abbrev trip (k : Fin k0_t1_loop.trips) : Prog (TpuEff nD τ sig (Elt F) Λ₀ .tc) Unit :=
  k0_t1_body (F := F) i aM (Memref.isWhole_whole _) arg3 harg3 arg4 harg4 arg5 harg5 arg6 harg6 arg7 harg7 arg8 harg8
    bufM (Memref.isWhole_whole _) cc0_scratch2 h1 v8 k ()

theorem sl_two (k : ℕ) : Ring.sl 2 (k + 1 + 1) = Ring.sl 2 k := by rw [show k + 1 + 1 = k + 2 from rfl, Ring.sl_add]

/-- A trip that is not the last. -/
theorem trip_next (k : Fin k0_t1_loop.trips) (hk : k.val + 1 < 8) (fx : Buf (Elt F) (arg8.view.loc (c : Thread nD τ))) :
    resAt c XA i arg3 harg3 arg8 x0 k fx ⊢ wp frame (wpE (defs₀ (F := F)) Variants.none (c : Thread nD τ) none) Set.univ
      (trip i arg3 harg3 arg4 harg4 arg5 harg5 arg6 harg6 arg7 harg7 arg8 harg8 h1 v8 k)
      (fun _ => resAt c XA i arg3 harg3 arg8 x0 (k.val + 1) (arg8.view.writes (Elt F) fx [⟨tripRect k, stored c XA x0 (i 0).val k⟩])) := by
  have hc : k0_cond2 k = 1#1 := (cond2_iff k).mpr hk
  have hk8 : k.val < 8 := by omega
  have hne := blk_ne i hk
  unfold resAt ringAt
  rw [if_pos hk8, if_pos hk, sl_two,
    homes_take c XA (Finset.univ.erase (blk i k.val)) (b := blk i (k.val + 1)) (Finset.mem_erase.mpr ⟨hne, Finset.mem_univ _⟩),
    homes_take c XA (Finset.univ.erase (blk i (k.val + 1))) (b := blk i k.val) (Finset.mem_erase.mpr ⟨hne.symm, Finset.mem_univ _⟩),
    Finset.erase_right_comm]
  iintro ⟨H3, HX, ⟨%W, HW⟩, ⟨Hb, Hrest⟩, ⟨%f0, HF0⟩, ⟨HC, ⟨%f1, HS⟩⟩⟩
  have hl : arg3.view.readAt (Elt F) (Rect.unit (s := S1x4096) ![0, 0] S1x4096.size inb_S1x4096_S1x4096_0_0).toLoadRect (harg3.unread x0) = x0 :=
    (readAt_full _ _ _).trans (harg3.read_unread x0)
  dsimp only [trip]
  sl_unfold [k0_t1_body]
  sl_open_parts
  sl_exec (disch := first | sl_exact hc)
  sl_step
  isplitl [H3]; · iexact H3
  isplitl [HX]; · iexact HX
  isplitl [HW]; · iexists _; iexact HW
  isplitl [HF0_src Hrest]
  · isplitl [HF0_src]; · iexact HF0_src
    iexact Hrest
  isplitl [HC]; · iexists _; iexact HC
  isplitl [HF0]; · iexact HF0
  iexists _; iexact HF0_dst

/-- The last trip. -/
theorem trip_last (k : Fin k0_t1_loop.trips) (hk : ¬k.val + 1 < 8) (fx : Buf (Elt F) (arg8.view.loc (c : Thread nD τ))) :
    resAt c XA i arg3 harg3 arg8 x0 k fx ⊢ wp frame (wpE (defs₀ (F := F)) Variants.none (c : Thread nD τ) none) Set.univ
      (trip i arg3 harg3 arg4 harg4 arg5 harg5 arg6 harg6 arg7 harg7 arg8 harg8 h1 v8 k)
      (fun _ => resAt c XA i arg3 harg3 arg8 x0 (k.val + 1) (arg8.view.writes (Elt F) fx [⟨tripRect k, stored c XA x0 (i 0).val k⟩])) := by
  have hc : ¬k0_cond2 k = 1#1 := fun h => hk ((cond2_iff k).mp h)
  have hk8 : k.val < 8 := trips_eq ▸ k.isLt
  unfold resAt ringAt
  rw [if_pos hk8, if_neg hk, sl_two, homes_take c XA Finset.univ (b := blk i k.val) (Finset.mem_univ _)]
  iintro ⟨H3, HX, ⟨%W, HW⟩, Hrest, ⟨%f0, HF0⟩, ⟨HC, ⟨%f1, HS⟩⟩⟩
  have hl : arg3.view.readAt (Elt F) (Rect.unit (s := S1x4096) ![0, 0] S1x4096.size inb_S1x4096_S1x4096_0_0).toLoadRect (harg3.unread x0) = x0 :=
    (readAt_full _ _ _).trans (harg3.read_unread x0)
  dsimp only [trip]
  sl_unfold [k0_t1_body]
  sl_open_parts
  sl_exec (disch := first | sl_exact hc)
  sl_step
  isplitl [H3]; · iexact H3
  isplitl [HX]; · iexact HX
  isplitl [HW]; · iexists _; iexact HW
  isplitl [HF0_src Hrest]
  · isplitl [HF0_src]; · iexact HF0_src
    iexact Hrest
  isplitl [HC HS]
  · isplitl [HC]; · iexact HC
    iexists _; iexact HS
  isplitl [HF0]; · iexact HF0
  iexists _; iexact HF0_dst

set_option warn.classDefReducibility false in
/-- The loop: before trip `k` the stores of the earlier trips are made. -/
@[sl_loop] def loopInv (f0 : Buf (Elt F) (arg8.view.loc (c : Thread nD τ))) :
    LoopInvTy_k0_t1 (F := F) Unit ℕ (Pipeline.UD sig nD τ) ℕ Variants.none c none Set.univ i aM (Memref.isWhole_whole _) arg3 harg3 arg4 harg4 arg5 harg5
      arg6 harg6 arg7 harg7 arg8 harg8 bufM (Memref.isWhole_whole _) cc0_scratch2 h1 v8 where
  inv k _ := resAt c XA i arg3 harg3 arg8 x0 k (arg8.view.writes (Elt F) f0 (pieces c XA x0 (i 0).val k))
  step k _ := by
    have e : pieces c XA x0 (i 0).val (k.val + 1) = ⟨tripRect k, stored c XA x0 (i 0).val k⟩ :: pieces c XA x0 (i 0).val k := by
      rw [pieces, dif_pos k.isLt]
    rw [e]
    by_cases hk : k.val + 1 < 8
    · exact trip_next c XA i arg3 harg3 arg4 harg4 arg5 harg5 arg6 harg6 arg7 harg7 arg8 harg8 h1 v8 x0 k hk _
    · exact trip_last c XA i arg3 harg3 arg4 harg4 arg5 harg5 arg6 harg6 arg7 harg7 arg8 harg8 h1 v8 x0 k hk _

end Trip

end Cert.InProjIdeal.Slots

end
-- ==== Proof.InProjBody.lean ====
/- The input projection's body at a point: the first point of a group norms the group's rows and computes the gates' products, every point computes a
   block of the projection. -/
module

public import proofs.«01_k».proof.Proof.InProjTrip
public import Idealize.ShloMosaic.Lib.WritesUnit

@[expose] public section

set_option maxRecDepth 16384

noncomputable section

namespace Cert.InProjIdeal.Slots

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Pieces

variable (c : Dev nD) (XA : Buf (Elt F) (aM.view.loc (c : Thread nD τ))) (x0 : Vec F S1x4096 .f32) (g : ℕ)

theorem mem_pieces (k : Fin k0_t1_loop.trips) :
    ∀ n, k.val < n → (⟨tripRect k, stored c XA x0 g k⟩ : View.Piece (Elt F) S1024x4096 .bf16) ∈ pieces c XA x0 g n
  | 0, h => absurd h (Nat.not_lt_zero _)
  | n + 1, h => by
    rw [pieces]
    rcases Nat.lt_succ_iff_lt_or_eq.mp h with h' | h'
    · split
      · exact List.mem_cons_of_mem _ (mem_pieces k n h')
      · exact mem_pieces k n h'
    · subst h'
      rw [dif_pos k.isLt]
      exact List.mem_cons_self

/-- The trip that stores a row. -/
abbrev tripOf (y : S1024x4096.Idx) : Fin k0_t1_loop.trips :=
  ⟨(y 0).val / 128, by have h : (y 0).val < 1024 := (y 0).isLt; rw [trips_eq]; omega⟩

theorem mem_tripRect (k : Fin k0_t1_loop.trips) (y : S1024x4096.Idx) : y ∈ (tripRect k).set ↔ (y 0).val / 128 = k.val := by
  rw [Rect.mem_set_unit, k0_off9_eq k]
  have h1 : (y 1).val < 4096 := (y 1).isLt
  constructor
  · intro H
    have a0 : 128 * k.val ≤ (y 0).val ∧ (y 0).val < 128 * k.val + 128 := H 0
    omega
  · intro H a
    fin_cases a
    · show 128 * k.val ≤ (y 0).val ∧ (y 0).val < 128 * k.val + 128; omega
    · show 0 ≤ (y 1).val ∧ (y 1).val < 0 + 4096; omega

/-- The trips store every row. -/
theorem pieces_cover (y : S1024x4096.Idx) : ∃ p ∈ pieces c XA x0 g k0_t1_loop.trips, y ∈ p.1.set :=
  ⟨_, mem_pieces c XA x0 g (tripOf y) _ (tripOf y).isLt, (mem_tripRect _ _).mpr rfl⟩

end Pieces

section Body

variable (c : Dev nD) (XA : Buf (Elt F) (aM.view.loc (c : Thread nD τ))) (i : grid0.Coords)
  (arg3 : Memref sig .tc .vmem S1x4096 .f32) (harg3 : arg3.IsWhole) (arg4 : Memref sig .tc .vmem S4096x1024 .bf16) (harg4 : arg4.IsWhole)
  (arg5 : Memref sig .tc .vmem S128x4096 .bf16) (harg5 : arg5.IsWhole) (arg6 : Memref sig .tc .vmem S1024x1024 .bf16) (harg6 : arg6.IsWhole)
  (arg7 : Memref sig .tc .vmem S128x1024 .f32) (harg7 : arg7.IsWhole) (arg8 : Memref sig .tc .vmem S1024x4096 .bf16) (harg8 : arg8.IsWhole)
  (x0 : Vec F S1x4096 .f32) (x1 : Vec F S4096x1024 .bf16) (x2 : Vec F S128x4096 .bf16)

abbrev body : Prog (TpuEff nD τ sig (Elt F) Λ₀ .tc) PUnit :=
  cc0_in_proj i aM (Memref.isWhole_whole _) arg3 harg3 arg4 harg4 arg5 harg5 arg6 harg6 arg7 harg7 arg8 harg8 bufM (Memref.isWhole_whole _) cc0_scratch2

/-- All that the transfers work with, at rest. -/
abbrev allRest : sProp (Res F) := iprop(bigSep Finset.univ (homeP c XA) ∗ restP c 0 ∗ restP c 1)

theorem sl_zero : Ring.sl 2 0 = 0 := Fin.ext (by rfl)
theorem sl_one : Ring.sl 2 (0 + 1) = 1 := Fin.ext (by rfl)
theorem sl_eight : Ring.sl 2 8 = 0 := Fin.ext (by rfl)
theorem sl_nine : Ring.sl 2 (8 + 1) = 1 := Fin.ext (by rfl)

theorem ring_first : iprop(bigSep (Finset.univ.erase (blk i 0)) (homeP c XA) ∗ (∃ f, flightP c XA 0 (blk i 0) f) ∗ restP c 1) ⊢ ringAt c XA i 0 := by
  unfold ringAt
  rw [if_pos (by omega), sl_zero, sl_one]

theorem ring_last : ringAt c XA i k0_t1_loop.trips ⊢ allRest c XA := by
  unfold ringAt
  rw [trips_eq, if_neg (by omega), sl_eight, sl_nine]

/-- After the loop the scratch holds the group's normed rows, and the transfers are at rest. -/
theorem res_last (f : Buf (Elt F) (arg8.view.loc (c : Thread nD τ))) :
    resAt c XA i arg3 harg3 arg8 x0 k0_t1_loop.trips (arg8.view.writes (Elt F) f (pieces c XA x0 (i 0).val k0_t1_loop.trips))
      ⊢ iprop((arg3.view.loc (c : Thread nD τ) ↦[arg3.view.set]{fullShare} harg3.unread x0)
        ∗ (arg8.view.loc (c : Thread nD τ) ↦[arg8.view.set]{fullShare} harg8.unread (normed c XA x0 (i 0).val))
        ∗ (∃ W, owes (c : Thread nD τ) 0 W) ∗ allRest c XA) := by
  have hx : arg8.view.read (Elt F) (arg8.view.writes (Elt F) f (pieces c XA x0 (i 0).val k0_t1_loop.trips)) = normed c XA x0 (i 0).val :=
    View.read_writes_eq_canon _ _ _ (pieces_cover c XA x0 (i 0).val)
  unfold resAt
  rw [harg8.eq_unread hx]
  iintro ⟨H3, H8, HW, HG⟩
  ihave HR := (ring_last c XA i) $$ HG
  isplitl [H3]; · iexact H3
  isplitl [H8]; · iexact H8
  isplitl [HW]; · iexact HW
  iexact HR

/-- A load of all of a memref that holds a block. -/
theorem load_all {sp : Space} {s : Shape} {e : EltTy} (M : Memref sig .tc sp s e) (hM : M.IsWhole) (x : s.Idx → Elt F e) {off : Fin s.rank → ℕ}
    (inb : ∀ a, off a + s.size a ≤ s.size a) : M.view.readAt (Elt F) (Rect.unit off s.size inb).toLoadRect (hM.unread x) = x :=
  (Slots.readAt_full M.view (hM.unread x) inb).trans (hM.read_unread x)

/-- A store of all of a view, read back. -/
theorem store_all {sp : Space} {s : Shape} {e : EltTy} (v : View sig .tc sp s e) (f : v.ty.Contents (Elt F)) {off : Fin s.rank → ℕ}
    (inb : ∀ a, off a + s.size a ≤ s.size a) (w : (Rect.unit off s.size inb).shape.Idx → Elt F e) :
    v.read (Elt F) (v.writes (Elt F) f [⟨Rect.unit off s.size inb, w⟩]) = w :=
  funext fun y => View.read_writes_cons_unit_of_mem v f inb w [] y y rfl fun a => by have := inb a; omega

theorem of_eq {P Q : sProp (Res F)} (e : P = Q) : P ⊢ Q := e ▸ .rfl

/-- The first point of a group. -/
theorem body_first (h1 : k0_cond1 i = 1#1) (W : Waits sig Unit) (K : PUnit → sProp (Res F)) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ allRest c XA ∗ owes (c : Thread nD τ) 0 W
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (normed c XA x0 (i 0).val) x1)
            ∗ owns (c : Thread nD τ) arg7 fullShare (k0_pay2 x2 (normed c XA x0 (i 0).val))
            ∗ owns (c : Thread nD τ) arg8 fullShare (normed c XA x0 (i 0).val)
            ∗ allRest c XA ∗ (∃ W', owes (c : Thread nD τ) 0 W')) -∗ K ⟨⟩))
      ⊢ wp frame (wpE (defs₀ (F := F)) Variants.none (c : Thread nD τ) none) Set.univ
          (body i arg3 harg3 arg4 harg4 arg5 harg5 arg6 harg6 arg7 harg7 arg8 harg8) K := by
  dsimp only [body]
  simp only [cc0_in_proj_eq_skeleton]; unfold cc0_in_proj_skel
  unfold owns allRest
  iintro ⟨⟨%f3, %hf3, H3⟩, ⟨%f4, %hf4, H4⟩, ⟨%f5, %hf5, H5⟩, ⟨%d6, %f6, -, H6⟩, ⟨%d7, %f7, -, H7⟩, ⟨%d8, %f8, -, H8⟩,
    ⟨Hh, ⟨HC0, ⟨%g0, HS0⟩⟩, HR1⟩, HW, Hk⟩
  ihave Hh' := (of_eq (homes_take c XA Finset.univ (b := blk i 0) (Finset.mem_univ _))) $$ Hh
  icases Hh' with ⟨Hb, Hrest⟩
  obtain rfl := harg3.eq_unread hf3
  obtain rfl := harg4.eq_unread hf4
  obtain rfl := harg5.eq_unread hf5
  sl_exec (disch := first | sl_exact h1)
  ihave HG : ringAt c XA i 0 $$ [HC0 Hrest HR1]
  · iapply (ring_first c XA i)
    isplitl [Hrest]; · iexact Hrest
    isplitl [HC0]; · iexists _; iexact HC0
    iexact HR1
  ihave HL : resAt c XA i arg3 harg3 arg8 x0 0 (arg8.view.writes (Elt F) f8 (pieces c XA x0 (i 0).val 0)) $$ [H3 H8 HW HG]
  · unfold resAt
    isplitl [H3]; · iexact H3
    isplitl [H8]; · iexact H8
    isplitl [HW]; · iexists _; iexact HW
    iexact HG
  sl_for (fun k _ => resAt c XA i arg3 harg3 arg8 x0 k (arg8.view.writes (Elt F) f8 (pieces c XA x0 (i 0).val k))) $$ [HL]
  case region => exact (loopInv c XA i arg3 harg3 arg4 harg4 arg5 harg5 arg6 harg6 arg7 harg7 arg8 harg8 h1 _ x0 f8).step
  · iexact HL
  iintro %acc HL
  ihave HL' := (res_last c XA i arg3 harg3 arg8 harg8 x0 f8) $$ HL
  icases HL' with ⟨H3, H8, ⟨%W1, HW⟩, HR⟩
  have l8 : arg8.view.readAt (Elt F) (Rect.unit (s := S1024x4096) ![0, 0] S1024x4096.size inb_S1024x4096_S1024x4096_0_0).toLoadRect
      (harg8.unread (normed c XA x0 (i 0).val)) = normed c XA x0 (i 0).val := load_all arg8 harg8 _ inb_S1024x4096_S1024x4096_0_0
  have l5 : arg5.view.readAt (Elt F) (Rect.unit (s := S128x4096) ![0, 0] S128x4096.size inb_S128x4096_S128x4096_0_0).toLoadRect
      (harg5.unread x2) = x2 := load_all arg5 harg5 _ inb_S128x4096_S128x4096_0_0
  have l4 : arg4.view.readAt (Elt F) (Rect.unit (s := S4096x1024) ![0, 0] S4096x1024.size inb_S4096x1024_S4096x1024_0_0).toLoadRect
      (harg4.unread x1) = x1 := load_all arg4 harg4 _ inb_S4096x1024_S4096x1024_0_0
  sl_exec
  sl_step
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact store_all _ _ _ _
  isplitl [H7]
  · iexists _; isplitr; swap; · iexact H7
    ipureintro; exact store_all _ _ _ _
  isplitl [H8]
  · iexists _; isplitr; swap; · iexact H8
    ipureintro; exact harg8.read_unread _
  isplitl [HR]; · iexact HR
  iexists _; iexact HW

/-- A later point of a group: the normed rows are there. -/
theorem body_later (h1 : ¬k0_cond1 i = 1#1) (xn : Vec F S1024x4096 .bf16) (K : PUnit → sProp (Res F)) :
    iprop(owns (c : Thread nD τ) arg4 fullShare x1 ∗ (∃ d, owns (c : Thread nD τ) arg6 fullShare d) ∗ owns (c : Thread nD τ) arg8 fullShare xn
        ∗ (iprop(owns (c : Thread nD τ) arg4 fullShare x1 ∗ owns (c : Thread nD τ) arg6 fullShare (k0_pay3 xn x1)
            ∗ owns (c : Thread nD τ) arg8 fullShare xn) -∗ K ⟨⟩))
      ⊢ wp frame (wpE (defs₀ (F := F)) Variants.none (c : Thread nD τ) none) Set.univ
          (body i arg3 harg3 arg4 harg4 arg5 harg5 arg6 harg6 arg7 harg7 arg8 harg8) K := by
  dsimp only [body]
  simp only [cc0_in_proj_eq_skeleton]; unfold cc0_in_proj_skel
  unfold owns
  iintro ⟨⟨%f4, %hf4, H4⟩, ⟨%d6, %f6, -, H6⟩, ⟨%f8, %hf8, H8⟩, Hk⟩
  obtain rfl := harg4.eq_unread hf4
  obtain rfl := harg8.eq_unread hf8
  have l8 : arg8.view.readAt (Elt F) (Rect.unit (s := S1024x4096) ![0, 0] S1024x4096.size inb_S1024x4096_S1024x4096_0_0).toLoadRect
      (harg8.unread xn) = xn := load_all arg8 harg8 _ inb_S1024x4096_S1024x4096_0_0
  have l4 : arg4.view.readAt (Elt F) (Rect.unit (s := S4096x1024) ![0, 0] S4096x1024.size inb_S4096x1024_S4096x1024_0_0).toLoadRect
      (harg4.unread x1) = x1 := load_all arg4 harg4 _ inb_S4096x1024_S4096x1024_0_0
  sl_exec (disch := first | sl_exact h1)
  sl_step
  iapply Hk
  isplitl [H4]
  · iexists _; isplitr; swap; · iexact H4
    ipureintro; exact hf4
  isplitl [H6]
  · iexists _; isplitr; swap; · iexact H6
    ipureintro; exact store_all _ _ _ _
  iexists _; isplitr; swap; · iexact H8
  ipureintro; exact hf8

end Body

end Cert.InProjIdeal.Slots

end
-- ==== Proof.InProjParts.lean ====
/- The activations and the scratch of the input projection, cut into the blocks and slots its transfers move. -/
module

public import proofs.«01_k».proof.Proof.InProjBody

@[expose] public section

set_option maxRecDepth 16384

noncomputable section

namespace Cert.InProjIdeal.Slots

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The elements of a block of rows, -/
abbrev rowsOf (b : Fin 128) : Finset S16384x4096.Idx := (Rect.unit (s := S16384x4096) (blockOff b) S128x4096.size (blockOff_inb b)).set
/-- and of a slot. -/
abbrev eltsOf (s : Fin 2) : Finset S2x128x4096.Idx := (Rect.unit (s := S2x128x4096) (slotOff s) S1x128x4096.size (slotOff_inb s)).set

theorem block_set (b : Fin 128) : (block b).view.set = rowsOf b := View.set_slice_whole _ _
theorem slot_set (s : Fin 2) : (slot s).view.set = eltsOf s := (View.set_reshape _ _).trans (View.set_slice_whole _ _)

theorem mem_rowsOf (b : Fin 128) (y : S16384x4096.Idx) : y ∈ rowsOf b ↔ (y 0).val / 128 = b.val := by
  rw [Rect.mem_set_unit]
  have h1 : (y 1).val < 4096 := (y 1).isLt
  constructor
  · intro H
    have a0 : 128 * b.val ≤ (y 0).val ∧ (y 0).val < 128 * b.val + 128 := H 0
    omega
  · intro H a
    fin_cases a
    · show 128 * b.val ≤ (y 0).val ∧ (y 0).val < 128 * b.val + 128; omega
    · show 0 ≤ (y 1).val ∧ (y 1).val < 0 + 4096; omega

theorem mem_eltsOf (s : Fin 2) (y : S2x128x4096.Idx) : y ∈ eltsOf s ↔ (y 0).val = s.val := by
  rw [Rect.mem_set_unit]
  have h1 : (y 1).val < 128 := (y 1).isLt
  have h2 : (y 2).val < 4096 := (y 2).isLt
  constructor
  · intro H
    have a0 : s.val ≤ (y 0).val ∧ (y 0).val < s.val + 1 := H 0
    omega
  · intro H a
    fin_cases a
    · show s.val ≤ (y 0).val ∧ (y 0).val < s.val + 1; omega
    · show 0 ≤ (y 1).val ∧ (y 1).val < 0 + 128; omega
    · show 0 ≤ (y 2).val ∧ (y 2).val < 0 + 4096; omega

theorem rows_disjoint : ∀ b b' : Fin 128, b ≠ b' → Disjoint (rowsOf b) (rowsOf b') := fun b b' hne =>
  Finset.disjoint_left.mpr fun y hy hy' => hne (Fin.ext (((mem_rowsOf b y).mp hy).symm.trans ((mem_rowsOf b' y).mp hy')))
theorem rows_cover : (Finset.univ : Finset (Fin 128)).biUnion rowsOf = Finset.univ :=
  Finset.eq_univ_iff_forall.mpr fun y => Finset.mem_biUnion.mpr
    ⟨⟨(y 0).val / 128, by have h : (y 0).val < 16384 := (y 0).isLt; omega⟩, Finset.mem_univ _, (mem_rowsOf _ y).mpr rfl⟩
theorem elts_disjoint : ∀ s s' : Fin 2, s ≠ s' → Disjoint (eltsOf s) (eltsOf s') := fun s s' hne =>
  Finset.disjoint_left.mpr fun y hy hy' => hne (Fin.ext (((mem_eltsOf s y).mp hy).symm.trans ((mem_eltsOf s' y).mp hy')))
theorem elts_cover : (Finset.univ : Finset (Fin 2)).biUnion eltsOf = Finset.univ :=
  Finset.eq_univ_iff_forall.mpr fun y => Finset.mem_biUnion.mpr ⟨⟨(y 0).val, (y 0).isLt⟩, Finset.mem_univ _, (mem_eltsOf _ y).mpr rfl⟩

variable (c : Dev nD)

/-- The activations are their blocks. -/
theorem homes_whole (XA : Buf (Elt F) (aM.view.loc (c : Thread nD τ))) :
    (aM.view.loc (c : Thread nD τ) ↦{fullShare} XA : sProp (Res F)) = bigSep Finset.univ (homeP c XA) := by
  rw [Ring.pointsTo_blocks (ℓ := aM.view.loc (c : Thread nD τ)) rowsOf rows_disjoint rows_cover]
  exact bigSep_congr fun b _ => by rw [← block_set]; rfl

theorem slotP_eq (s : Fin 2) (f) : (slotP c s f : sProp (Res F)) = ((c : Thread nD τ).loc cc0_scratch1) ↦[eltsOf s]{fullShare} f :=
  congrArg (fun S => (_ ↦[S]{fullShare} f : sProp (Res F))) (slot_set s)

theorem two (Φ : Fin 2 → sProp (Res F)) : bigSep Finset.univ Φ = iprop(Φ 0 ∗ Φ 1) :=
  bigSep_univ_eq_bigSepL [(0 : Fin 2), (1 : Fin 2)] (by decide) (by decide) Φ

/-- The scratch is its two slots, -/
theorem slots_split (f : Buf (Elt F) ((c : Thread nD τ).loc cc0_scratch1)) :
    (((c : Thread nD τ).loc cc0_scratch1) ↦{fullShare} f : sProp (Res F)) ⊢ iprop((∃ f, slotP c 0 f) ∗ ∃ f, slotP c 1 f) := by
  iintro H
  ihave H2 := (of_eq ((Ring.pointsTo_blocks (ℓ := (c : Thread nD τ).loc cc0_scratch1) eltsOf elts_disjoint elts_cover f).trans (two _))) $$ H
  icases H2 with ⟨H0, H1⟩
  isplitl [H0]
  · iexists f; iapply (of_eq (slotP_eq c 0 f).symm); iexact H0
  · iexists f; iapply (of_eq (slotP_eq c 1 f).symm); iexact H1

/-- and back. -/
theorem slots_join : iprop((∃ f, slotP c 0 f) ∗ ∃ f, slotP c 1 f)
    ⊢ (iprop(∃ f : Buf (Elt F) ((c : Thread nD τ).loc cc0_scratch1), ((c : Thread nD τ).loc cc0_scratch1) ↦{fullShare} f) : sProp (Res F)) := by
  iintro ⟨⟨%f0, H0⟩, ⟨%f1, H1⟩⟩
  iapply (Ring.pointsTo_blocks_join_exists (ℓ := (c : Thread nD τ).loc cc0_scratch1) eltsOf elts_disjoint elts_cover f0)
  irw [two]
  isplitl [H0]
  · iexists f0; iapply (of_eq (slotP_eq c 0 f0)); iexact H0
  · iexists f1; iapply (of_eq (slotP_eq c 1 f1)); iexact H1

/-- The cells of the two slots. -/
theorem cell_zero : (cellP c 0 : sProp (Res F)) = semVal ((c : Thread nD τ), SemLoc.dma 8) 0 := rfl
theorem cell_one : (cellP c 1 : sProp (Res F)) = semVal ((c : Thread nD τ), SemLoc.dma 9) 0 := rfl

/-- What the body's transfers need, taken from the whole buffers, -/
theorem rest_of (XA : Buf (Elt F) (aM.view.loc (c : Thread nD τ))) :
    iprop((∃ f : Buf (Elt F) ((c : Thread nD τ).loc cc0_scratch1), ((c : Thread nD τ).loc cc0_scratch1) ↦{fullShare} f)
        ∗ (semVal ((c : Thread nD τ), SemLoc.dma 8) 0 ∗ semVal ((c : Thread nD τ), SemLoc.dma 9) 0) ∗ (aM.view.loc (c : Thread nD τ) ↦{fullShare} XA))
      ⊢ allRest c XA := by
  rw [homes_whole, ← cell_zero, ← cell_one]
  iintro ⟨⟨%f, HS⟩, ⟨HC0, HC1⟩, HA⟩
  ihave H := (slots_split c f) $$ HS
  icases H with ⟨H0, H1⟩
  isplitl [HA]; · iexact HA
  isplitl [HC0 H0]
  · isplitl [HC0]; · iexact HC0
    iexact H0
  isplitl [HC1]; · iexact HC1
  iexact H1

/-- and given back. -/
theorem rest_to (XA : Buf (Elt F) (aM.view.loc (c : Thread nD τ))) :
    allRest c XA
      ⊢ iprop((∃ f : Buf (Elt F) ((c : Thread nD τ).loc cc0_scratch1), ((c : Thread nD τ).loc cc0_scratch1) ↦{fullShare} f)
        ∗ (semVal ((c : Thread nD τ), SemLoc.dma 8) 0 ∗ semVal ((c : Thread nD τ), SemLoc.dma 9) 0) ∗ (aM.view.loc (c : Thread nD τ) ↦{fullShare} XA)) := by
  rw [homes_whole, ← cell_zero, ← cell_one]
  iintro ⟨HA, ⟨HC0, H0⟩, ⟨HC1, H1⟩⟩
  isplitl [H0 H1]
  · iapply (slots_join c)
    isplitl [H0]; · iexact H0
    iexact H1
  isplitl [HC0 HC1]
  · isplitl [HC0]; · iexact HC0
    iexact HC1
  iexact HA

end Cert.InProjIdeal.Slots

end
-- ==== Proof.InProjFrame.lean ====
/- The input projection's run: what its windows and its scratch hold point by point, and where it ends. -/
module

public import proofs.«01_k».proof.Proof.InProjParts
public import Idealize.ShloMosaic.Lib.Claim

@[expose] public section

set_option maxRecDepth 16384

noncomputable section

namespace Cert.InProjIdeal.Slots

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ) (ρ : Dev nD → PrngReg)

/-! ## The buffers at the region's entry -/

/-- A buffer when the region is entered: after the one host operation. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

theorem enter : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub fresh0 main_chain

/-- A buffer other than the reshaped gain is as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne hb))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves -/

abbrev t0 : Fin cfg0.N := ⟨0, by rw [show cfg0.N = 384 from N_0]; omega⟩
/-- The gain, the weights' block and the gates' weights. -/
abbrev gain (c : Dev nD) (t : Fin cfg0.N) : Vec F S1x4096 .f32 := iblk m c 0 t
abbrev wblk (c : Dev nD) (t : Fin cfg0.N) : Vec F S4096x1024 .bf16 := iblk m c 1 t
abbrev wgate (c : Dev nD) (t : Fin cfg0.N) : Vec F S128x4096 .bf16 := iblk m c 2 t

theorem gain_const (c : Dev nD) (t : Fin cfg0.N) : gain m c t = gain m c t0 := rfl
theorem wgate_const (c : Dev nD) (t : Fin cfg0.N) : wgate m c t = wgate m c t0 := rfl

/-- The normed rows in the scratch after point `t`. -/
def rowsAt (c : Dev nD) (t : Fin cfg0.N) : Vec F S1024x4096 .bf16 := normed c (V m c main_arg0) (gain m c t0) (grid0.coords t 0).val

theorem group (t : Fin cfg0.N) : (grid0.coords t 0).val = t.val / 24 := by
  have ht : t.val < 384 := Nat.lt_of_lt_of_eq t.isLt N_0
  have e : (grid0.coords t 0).val = t.val / 24 % 16 := Pipeline.Grid.coords_val t 0 (by decide) rfl
  omega

theorem first_iff (t : Fin cfg0.N) : k0_cond1 (grid0.coords t) = 1#1 ↔ t.val % 24 = 0 := by
  have ht : t.val < 384 := Nat.lt_of_lt_of_eq t.isLt N_0
  have e0 : (grid0.coords t 0).val = t.val / 24 % 16 := Pipeline.Grid.coords_val t 0 (by decide) rfl
  have e1 : (grid0.coords t 1).val = t.val / 1 % 24 := Pipeline.Grid.coords_val t 1 (by decide) rfl
  simp only [k0_cond1, e0, e1]
  word_cmp

/-- The point before. -/
abbrev prev (t : Fin cfg0.N) : Fin cfg0.N := ⟨t.val - 1, Nat.lt_of_le_of_lt (Nat.sub_le _ _) t.isLt⟩

/-- Within a group the rows stay. -/
theorem rowsAt_prev (c : Dev nD) (t : Fin cfg0.N) (h : ¬t.val % 24 = 0) : rowsAt m c (prev t) = rowsAt m c t := by
  unfold rowsAt
  rw [group, group, show (prev t).val / 24 = t.val / 24 from by show (t.val - 1) / 24 = t.val / 24; omega]

abbrev osem : Fin 2 → SemLoc sig := fun j => (![SemLoc.dma 8, SemLoc.dma 9] : Fin 2 → SemLoc sig) j
theorem osem_facts : Pipeline.OwnSemFacts spec0 osem := by decide
def H : Finset (Ref sig .tc) := {main_arg0}
theorem H_sub : H ⊆ Pipeline.restRefs sig spec0 := by decide

/-- The transfers' slots, semaphores and blocks, as the buffers they lie in. -/
abbrev moved (c : Dev nD) : sProp (Res F) :=
  iprop((∃ f : Buf (Elt F) ((c : Thread nD τ).loc cc0_scratch1), ((c : Thread nD τ).loc cc0_scratch1) ↦{fullShare} f)
    ∗ (semVal ((c : Thread nD τ), SemLoc.dma 8) 0 ∗ semVal ((c : Thread nD τ), SemLoc.dma 9) 0) ∗ (aM.view.loc (c : Thread nD τ) ↦{fullShare} V m c main_arg0))

/-- Before point `n`: the scratch holds what the point before left, at the start anything. -/
def Φ (c : Dev nD) : (n : ℕ) → n ≤ cfg0.N → sProp (Res F)
  | 0, _ => iprop((∃ d, owns (c : Thread nD τ) xnM fullShare d) ∗ (∃ r, prngReg c r) ∗ moved m c)
  | n + 1, h => iprop(owns (c : Thread nD τ) xnM fullShare (rowsAt m c ⟨n, h⟩) ∗ (∃ r, prngReg c r) ∗ moved m c)

theorem Φ_pos (c : Dev nD) (n : ℕ) (h : n ≤ cfg0.N) (hz : n ≠ 0) :
    Φ m c n h = iprop(owns (c : Thread nD τ) xnM fullShare (rowsAt m c ⟨n - 1, by omega⟩) ∗ (∃ r, prngReg c r) ∗ moved m c) := by
  cases n with
  | zero => exact absurd rfl hz
  | succ n => rfl

theorem Φ_any (c : Dev nD) (n : ℕ) (h : n ≤ cfg0.N) :
    Φ m c n h ⊢ iprop((∃ d, owns (c : Thread nD τ) xnM fullShare d) ∗ (∃ r, prngReg c r) ∗ moved m c) := by
  cases n with
  | zero => exact .rfl
  | succ n =>
    unfold Φ
    iintro ⟨H, HR⟩
    isplitl [H]; · iexists _; iexact H
    iexact HR

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (rowsAt m c t) (wblk m c t)
    | ⟨4, _⟩ => k0_pay2 (wgate m c t0) (rowsAt m c t)
  Φ t := Φ m c t.val (Nat.le_of_lt_succ t.isLt)
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (rowsAt m c t) (wblk m c t) := by dsimp only [dats]
theorem after4 (c : Dev nD) (t : Fin cfg0.N) : (dats m 0 c).after 4 t = k0_pay2 (wgate m c t0) (rowsAt m c t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans
    (by unfold Dat.fetched Dat.blockOf iblk; rw [A_eq]; rfl)

/-- The gates' block is written at a group's first point alone. -/
theorem idle_first (t : Fin cfg0.N) (h : t.val % 24 = 0) : cfg0.idle 4 (cfg0.grid.coords t) = false := by
  show (!(k0_cond1 (grid0.coords t) == 1#1)) = false
  rw [(first_iff t).mpr h]; rfl

theorem idle_later (t : Fin cfg0.N) (h : ¬t.val % 24 = 0) : cfg0.idle 4 (cfg0.grid.coords t) = true := by
  show (!(k0_cond1 (grid0.coords t) == 1#1)) = true
  rw [beq_eq_false_iff_ne.mpr fun e => h ((first_iff t).mp e)]; rfl

/-- Within a group the gates' block stays. -/
theorem before4 (c : Dev nD) (d) : ∀ (n : ℕ) (t : Fin cfg0.N) (_ : t.val = n) (_ : ¬t.val % 24 = 0),
    (dats m 0 c).before 4 t d = k0_pay2 (wgate m c t0) (rowsAt m c t)
  | 0, t, e, h => absurd (by rw [e]) h
  | n + 1, t, e, h => by
    have hf : (cfg0.win 4).flush (prev t) = false :=
      Bool.eq_false_iff.mpr fun e' => by
        have := (flush0_4 (prev t)).mp e'
        have e'' : (prev t).val = t.val - 1 := rfl
        omega
    rw [(dats m 0 c).before_of_pos 4 t (by omega) ((cfg0.win 4).fetch_out rfl t) d, if_neg (by rw [hf]; exact Bool.false_ne_true)]
    have hp : (prev t).val = n := by show t.val - 1 = n; omega
    rw [← rowsAt_prev m c t h]
    unfold Dat.left
    by_cases h0 : (prev t).val % 24 = 0
    · rw [idle_first (prev t) h0]
      show (dats m 0 c).kept 4 (prev t) d = _
      unfold Dat.kept
      rw [Pipeline.fill_of_clip_none 4 _ (fun _ => rfl) d ((dats m 0 c).after 4 _), Window.fill_cut, after4]
    · rw [idle_later (prev t) h0]
      exact before4 c d n (prev t) hp h0

/-! ## The body at a point -/

abbrev stage0 (t : Fin cfg0.N) : Memref sig .tc .vmem S1x4096 .f32 := win0_0.stage (cfg0.slots t 0)
abbrev stage1 (t : Fin cfg0.N) : Memref sig .tc .vmem S4096x1024 .bf16 := win0_1.stage (cfg0.slots t 1)
abbrev stage2 (t : Fin cfg0.N) : Memref sig .tc .vmem S128x4096 .bf16 := win0_2.stage (cfg0.slots t 2)
abbrev stage3 (t : Fin cfg0.N) : Memref sig .tc .vmem S1024x1024 .bf16 := win0_3.stage (cfg0.slots t 3)
abbrev stage4 (t : Fin cfg0.N) : Memref sig .tc .vmem S128x1024 .f32 := win0_4.stage (cfg0.slots t 4)

/-- What the body is called with, -/
def pre (c : Dev nD) (t : Fin cfg0.N) : sProp (Res F) :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d)))

/-- and what it returns. -/
def post (c : Dev nD) (t : Fin cfg0.N) : sProp (Res F) :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t))

theorem Φ_start (c : Dev nD) (t : Fin cfg0.N) : (dats m 0 c).Φ t.castSucc = Φ m c t.val (Nat.le_of_lt t.isLt) := by
  dsimp only [dats]; exact Pipeline.Dat.Φ_castSucc (Φ m c) t

set_option maxHeartbeats 1600000 in
theorem point (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).Φ t.succ = Φ m c (t.val + 1) t.isLt from rfl, Φ_start, after0, after1, after2, after3, after4]
  unfold Dat.owesAt Pipeline.owesWithin
  rw [show (dats m 0 c).owed t.castSucc = 0 from rfl, show (dats m 0 c).owed t.succ = 0 from rfl]
  rw [show Φ m c (t.val + 1) t.isLt = iprop(owns (c : Thread nD τ) xnM fullShare (rowsAt m c t) ∗ (∃ r, prngReg c r) ∗ moved m c) from rfl]
  by_cases h0 : t.val % 24 = 0
  · iintro ⟨HΦ, ⟨%W, -, HW⟩, ⟨%d0, H0⟩, ⟨%d1, H1⟩, ⟨%d2, H2⟩, ⟨%d3, H3⟩, ⟨%d4, H4⟩⟩
    ihave HΦ' := (Φ_any m c t.val (Nat.le_of_lt t.isLt)) $$ HΦ
    icases HΦ' with ⟨HX, HP, HM⟩
    ihave HR := (rest_of c (V m c main_arg0)) $$ HM
    iapply (body_first c (V m c main_arg0) (grid0.coords t) (stage0 t) _ (stage1 t) _ (stage2 t) _ (stage3 t) _ (stage4 t) _ xnM _
      (gain m c t0) (wblk m c t) (wgate m c t0) ((first_iff t).mpr h0) W _)
    isplitl [H0]; · iexact H0
    isplitl [H1]; · iexact H1
    isplitl [H2]; · iexact H2
    isplitl [H3]; · iexists _; iexact H3
    isplitl [H4]; · iexists _; iexact H4
    isplitl [HX]; · iexact HX
    isplitl [HR]; · iexact HR
    isplitl [HW]; · iexact HW
    iintro ⟨H0, H1, H2, H3, H4, HX, HR, ⟨%W', HW⟩⟩
    ihave HM := (rest_to c (V m c main_arg0)) $$ HR
    isplitl [HX HP HM]
    · isplitl [HX]; · iexact HX
      isplitl [HP]; · iexact HP
      iexact HM
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    iexact H4
  · rw [Φ_pos m c t.val _ (by omega)]
    rw [show rowsAt m c ⟨t.val - 1, _⟩ = rowsAt m c t from rowsAt_prev m c t h0]
    simp only [before4 m c _ t.val t rfl h0]
    iintro ⟨⟨HX, HP, HM⟩, ⟨%W, -, HW⟩, ⟨%d0, H0⟩, ⟨%d1, H1⟩, ⟨%d2, H2⟩, ⟨%d3, H3⟩, ⟨%d4, H4⟩⟩
    iapply (body_later c (grid0.coords t) (stage0 t) _ (stage1 t) _ (stage2 t) _ (stage3 t) _ (stage4 t) _ xnM _
      (wblk m c t) (fun h => h0 ((first_iff t).mp h)) (rowsAt m c t) _)
    isplitl [H1]; · iexact H1
    isplitl [H3]; · iexists _; iexact H3
    isplitl [HX]; · iexact HX
    iintro ⟨H1, H3, HX⟩
    isplitl [HX HP HM]
    · isplitl [HX]; · iexact HX
      isplitl [HP]; · iexact HP
      iexact HM
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

theorem row (t : Fin cfg0.N) : defs₀ (F := F) .tc cfg0.body (cfg0.bodyArgs t (cfg0.slots t)) = bodyAt0 t := by
  unfold defs₀; rw [Defs.onTc_tc]

/-- The gates' block as the body returns it. -/
theorem left4 (c : Dev nD) (t : Fin cfg0.N) :
    (owns (c : Thread nD τ) (stage4 t) fullShare ((dats m 0 c).after 4 t) : sProp (Res F)) ⊢ (dats m 0 c).leavesExact 4 t := by
  unfold Dat.leavesExact
  by_cases h : t.val % 24 = 0
  · rw [idle_first t h]
  · rw [idle_later t h]
    cases (cfg0.win 4).flush t
    · iintro H
      iexists (dats m 0 c).after 4 t
      rw [before4 m c _ t.val t rfl h, ← after4]
      iexact H
    · exact .rfl

theorem obligation (c : Dev nD) : BodyObligation (dats (F := F) m 0 c) (defs₀ (F := F)) Variants.none () Set.univ := fun t => by
  rw [bigSep_W0, bigSep_W0, row]
  exact (point m c t).trans (wp_mono _ _ _ fun _ => sep_mono .rfl (sep_mono .rfl (sep_mono .rfl (sep_mono .rfl (sep_mono .rfl
    (sep_mono .rfl (left4 m c t)))))))

/-! ## The run -/

theorem launched (c : Dev nD) : (Pipeline.ΦD osem spec0 H (V m) c : sProp (Res F))
    = iprop(iprop((∃ d, owns (c : Thread nD τ) xnM fullShare d) ∗ (∃ f : Buf (Elt F) ((c : Thread nD τ).loc cc0_scratch1), ((c : Thread nD τ).loc cc0_scratch1) ↦{fullShare} f))
        ∗ (∃ r, prngReg c r) ∗ iprop(semVal ((c : Thread nD τ), SemLoc.dma 8) 0 ∗ semVal ((c : Thread nD τ), SemLoc.dma 9) 0)
        ∗ (aM.view.loc (c : Thread nD τ) ↦{fullShare} V m c main_arg0)) := by
  rw [Pipeline.ΦD_eq, scopedRest0_eq, Pipeline.ownSems0_eq_of_list c osem [0, 1] (by decide) (by decide),
    show (bigSep H (fun b => ((c : Thread nD τ).loc b) ↦{fullShare} V m c b) : sProp (Res F)) = (aM.view.loc (c : Thread nD τ) ↦{fullShare} V m c main_arg0) from by
      rw [BI.bigSep_eq_bigSepL_of_eq [main_arg0] (by decide) (by decide)]; rfl]
  simp only [xnM, owns_whole]
  rfl

theorem into (c : Dev nD) : Pipeline.ΦD osem spec0 H (V m) c ⊢ (dats m 0 c).Φ 0 := by
  rw [show (dats m 0 c).Φ 0 = iprop((∃ d, owns (c : Thread nD τ) xnM fullShare d) ∗ (∃ r, prngReg c r) ∗ moved m c) from rfl, launched]
  iintro ⟨⟨HX, HS⟩, HP, HC, HA⟩
  isplitl [HX]; · iexact HX
  isplitl [HP]; · iexact HP
  isplitl [HS]; · iexact HS
  isplitl [HC]; · iexact HC
  iexact HA

theorem outOf (c : Dev nD) : (dats m 0 c).Φ (Fin.last cfg0.N) ⊢ Pipeline.ΦD osem spec0 H (V m) c := by
  rw [launched]
  refine (Φ_any m c cfg0.N (Nat.le_refl _)).trans ?_
  iintro ⟨HX, HP, HS, HC, HA⟩
  isplitl [HX HS]
  · isplitl [HX]; · iexact HX
    iexact HS
  isplitl [HP]; · iexact HP
  isplitl [HC]; · iexact HC
  iexact HA

set_option backward.isDefEq.respectTransparency.types false in
/-- Every run ends, its arrays as the pipeline leaves them, every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none osem_facts H H_sub m ρ main
    (hbody := fun c => (obligation m c).loose) (hshare := fun c => (dats m 0 c).share_full fun _ => rfl)
    (howed := fun _ _ => rfl) (V := V m) (hmain := enter m) (hA := A_eq m) (hin := into m) (hout := outOf m)

/-- Where it ends the arguments are as they were. -/
theorem args_kept (r : PUnit × MemSt nD τ sig (Elt F)) (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_arg m c _ (by decide)),
    ((h c).2 main_arg1 (Pipeline.mem_restRefs_of main_arg1 (by decide) (by decide))).trans (V_arg m c _ (by decide)),
    ((h c).1 1).trans (((dats m 0 c).arrAt_in 1 rfl _).trans ((A_eq m c 1).trans (V_arg m c _ (by decide)))),
    ((h c).1 2).trans (((dats m 0 c).arrAt_in 2 rfl _).trans ((A_eq m c 2).trans (V_arg m c _ (by decide))))⟩

/-- The frame: the arguments end as they were, every semaphore at zero. -/
theorem args_unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run m ρ)

end Cert.InProjIdeal.Slots

end
-- ==== Proof.InProjRaw.lean ====
/- The input projection at its own formats keeps its arguments: its program is the ideal one's, read at those formats. -/
module

public import proofs.«01_k».proof.Defs
public import proofs.«01_k».proof.Proof.Gen.InProj.Launch
public import proofs.«01_k».proof.Proof.InProjFrame

@[expose] public section

set_option maxRecDepth 65536

noncomputable section

namespace Cert.Proof

open Idealize.ShloMosaic Idealize.ShloMosaic.TcCoe Idealize.SL.Sem

variable {F : FTy → Type} [FloatOps F]

/-- The two programs' bodies are one term. -/
theorem in_proj_bodies : @Cert.InProj.defs₀ F _ _ = @Cert.InProjIdeal.defs₀ F _ _ := by
  unfold Cert.InProj.defs₀ Cert.InProjIdeal.defs₀
  refine congrArg Defs.onTc ?_
  funext l a
  match l, a with
  | 0, (t, s) => rfl

theorem in_proj_defs : @Cert.InProj.defs F _ _ = @Cert.InProjIdeal.defs F _ _ := congrArg (Pipeline.defs _) in_proj_bodies

theorem in_proj_frame : Cert.quiescent_InProj := fun m g _ => by
  rw [in_proj_defs]
  exact Cert.InProjIdeal.Slots.args_unchanged (F := Bits) m g

theorem in_proj_ideal_frame : Cert.quiescent_InProjIdeal := fun m g _ => Cert.InProjIdeal.Slots.args_unchanged (F := Ideal) m g

end Cert.Proof

end
-- ==== Proof.InProjRows.lean ====
/- The input projection's normed rows over the real numbers: each trip's rows are the block's, normed, and the trips fill the group. -/
module

public import proofs.«01_k».proof.Proof.InProjFrame
public import Idealize.ShloMosaic.Lib.Pointwise

@[expose] public section

set_option maxRecDepth 16384

noncomputable section

namespace Cert.InProjIdeal.Slots

open Cert.InProjIdeal Cert.InProjIdeal.Gen
open Idealize.ShloMosaic Idealize.ShloMosaic.TcCoe

/-- A load of a slot through the buffer of both. -/
theorem load_slot (c : Dev nD) (s : Fin 2) (G : Buf (Elt Ideal) ((slot s).view.loc (c : Thread nD τ))) {off : Fin 3 → ℕ} (h : off = slotOff s)
    (inb : ∀ a, off a + S1x128x4096.size a ≤ S2x128x4096.size a) :
    k0_pay4 (View.readAt (Elt Ideal) bufM.view (Rect.unit (s := S2x128x4096) off S1x128x4096.size inb).toLoadRect G) = (slot s).view.read (Elt Ideal) G := by
  subst h; rfl

/-- A view written whole. -/
theorem read_landed {sp : Space} {s : Shape} {e : EltTy} (v : View sig .tc sp s e) (f : v.ty.Contents (Elt Ideal)) (w : s.Idx → Elt Ideal e) :
    v.read (Elt Ideal) (v.writes (Elt Ideal) f [⟨Rect.whole s, w⟩]) = w :=
  funext fun y => (congrArg (v.read (Elt Ideal) (v.writes (Elt Ideal) f [⟨Rect.whole s, w⟩]))
    (funext fun a => Fin.ext (show (y a).val = 0 + 1 * (y a).val by omega))).trans (View.read_writes_cons_emb v f (Rect.whole s) w [] y)

/-- What a trip loads is its block. -/
theorem loaded_eq (c : Dev nD) (XA : Buf (Elt Ideal) (aM.view.loc (c : Thread nD τ))) (g : ℕ) (k : Fin k0_t1_loop.trips) :
    k0_pay4 (loaded (F := Ideal) c XA g k) = words c XA (Ring.bk 128 (8 * g + k.val)) :=
  (load_slot c (Ring.sl 2 k.val) _ (off8_eq k) (off8_inb k)).trans (read_landed (slot (Ring.sl 2 k.val)).view _ _)

/-- A word of a block. -/
theorem words_at (c : Dev nD) (XA : Buf (Elt Ideal) (aM.view.loc (c : Thread nD τ))) (b : Fin 128) (r : Fin 128) (q : Fin 4096) (i : Fin 16384)
    (hi : i.val = 128 * b.val + r.val) : words c XA b (ix2 r q) = (XA : Vec Ideal S16384x4096 .f32) (ix2 i q) := by
  show (XA : Vec Ideal S16384x4096 .f32) ((Rect.unit (s := S16384x4096) (blockOff b) S128x4096.size (blockOff_inb b)).emb (ix2 r q)) = _
  congr 1
  funext a
  fin_cases a
  · exact Fin.ext (by show 128 * b.val + 1 * r.val = i.val; omega)
  · exact Fin.ext (by show 0 + 1 * q.val = q.val; omega)

/-- A row over its root mean square, at a place, times the gain there. -/
def normRow (row : Fin 4096 → EReal) (gn : EReal) (q : Fin 4096) : EReal :=
  row q * Ideal.rsqrt (Ideal.div (∑ k : Fin 4096, row k * row k) (Ideal.ofBits .f32 0x45800000#32) + Ideal.ofBits .f32 0x358637BD#32) * gn

/-- What a trip computes of what it loads. -/
theorem norm_body (v : Vec Ideal S1x128x4096 .f32) (x0 : Vec Ideal S1x4096 .f32) (r : Fin 128) (q : Fin 4096) :
    k0_pay1 (k0_pay4 v) (k0_pay5 v) x0 (ix2 r q) = normRow (fun k => k0_pay4 v (ix2 r k)) (x0 (ix2 0 q)) q := by
  unfold k0_pay5
  generalize k0_pay4 v = W
  pointwise [k0_pay1]
  rfl

variable (c : Dev nD) (XA : Buf (Elt Ideal) (aM.view.loc (c : Thread nD τ))) (x0 : Vec Ideal S1x4096 .f32) (g : ℕ)

/-- A row of the group lies in the one trip's store that covers it. -/
theorem pieces_at (k : Fin k0_t1_loop.trips) (r : Fin 128) (y : S1024x4096.Idx) (hy : (y 0).val = 128 * k.val + r.val) :
    ∀ n, n ≤ k0_t1_loop.trips → k.val < n → View.canon (pieces (F := Ideal) c XA x0 g n) y = stored c XA x0 g k (ix2 r (y 1))
  | 0, _, h => absurd h (Nat.not_lt_zero _)
  | n + 1, hn, h => by
    rw [pieces, dif_pos (show n < k0_t1_loop.trips from hn)]
    rcases Nat.lt_succ_iff_lt_or_eq.mp h with h' | h'
    · rw [View.canon_cons_of_not_mem _ _ (by
        rw [mem_tripRect]
        have := r.isLt
        show ¬(y 0).val / 128 = n
        omega)]
      exact pieces_at k r y hy n (Nat.le_of_succ_le hn) h'
    · subst h'
      have e : (tripRect k).emb (ix2 r (y 1)) = y := by
        funext a
        refine Fin.ext ?_
        show k0_off9 k a + 1 * _ = _
        rw [k0_off9_eq k]
        fin_cases a
        · show 128 * k.val + 1 * r.val = (y 0).val; omega
        · show 0 + 1 * (y 1).val = (y 1).val; omega
      conv_lhs => rw [← e]
      exact View.canon_cons_emb (tripRect k) (stored c XA x0 g k) _ (ix2 r (y 1))

/-- A normed row of a group. -/
theorem normed_at (hg : g < 16) (r : Fin 1024) (q : Fin 4096) (i : Fin 16384) (hi : i.val = 1024 * g + r.val) :
    normed (F := Ideal) c XA x0 g (ix2 r q) = normRow (fun k => (XA : Vec Ideal S16384x4096 .f32) (ix2 i k)) (x0 (ix2 0 q)) q := by
  have hr := r.isLt
  unfold normed
  refine (pieces_at c XA x0 g (tripOf (ix2 r q)) ⟨r.val % 128, by omega⟩ (ix2 r q) (by show r.val = 128 * (r.val / 128) + r.val % 128; omega)
    k0_t1_loop.trips le_rfl (tripOf (ix2 r q)).isLt).trans ?_
  refine (norm_body _ x0 _ q).trans ?_
  rw [loaded_eq]
  refine congrArg (fun f => normRow f (x0 (ix2 0 q)) q) (funext fun k => words_at c XA _ _ k i ?_)
  rw [Ring.bk_val (by show 8 * g + r.val / 128 < 128; omega)]
  show i.val = 128 * (8 * g + r.val / 128) + r.val % 128
  omega

end Cert.InProjIdeal.Slots

end
-- ==== Proof.InProjValue.lean ====
/- The input projection: every point writes a block of the array of products of a normed row and a column, every group of points a block of the
   gates' products, and the reference is those two arrays. -/
module

public import proofs.«01_k».proof.Defs
public import proofs.«01_k».proof.Proof.InProjRows
public import proofs.«01_k».proof.Proof.Merge
public import proofs.«01_k».proof.Proof.Gen.InProjRefIdeal.Run
public import Idealize.ShloMosaic.Lib.Pipeline.ValueKit

@[expose] public section

set_option maxRecDepth 16384

noncomputable section

namespace Cert.InProjIdeal.Slots

open Cert.InProjIdeal Cert.InProjIdeal.Gen
open Idealize.ShloMosaic Idealize.ShloMosaic.TcCoe Idealize.SL.Sem

/-- The product of a normed row and a column. -/
def projected (x : Vec Ideal S16384x4096 .f32) (gn : Vec Ideal S4096 .f32) (w : Vec Ideal S4096x24576 .bf16) (i : Fin 16384) (j : Fin 24576) : EReal :=
  ∑ k : Fin 4096, normRow (fun q => x (ix2 i q)) (gn (ix1 k)) k * w (ix2 k j)

/-- The product of a gate's weights and a normed row. -/
def gated (x : Vec Ideal S16384x4096 .f32) (gn : Vec Ideal S4096 .f32) (w : Vec Ideal S128x4096 .bf16) (i : Fin 128) (j : Fin 16384) : EReal :=
  ∑ k : Fin 4096, w (ix2 i k) * normRow (fun q => x (ix2 j q)) (gn (ix1 k)) k

theorem product_at (X : Vec Ideal S1024x4096 .bf16) (w : Vec Ideal S4096x1024 .bf16) (i : Fin 1024) (j : Fin 1024) :
    k0_pay3 X w (ix2 i j) = ∑ k : Fin 4096, X (ix2 i k) * w (ix2 k j) := by
  pointwise [k0_pay3]

theorem gates_at (w : Vec Ideal S128x4096 .bf16) (X : Vec Ideal S1024x4096 .bf16) (i : Fin 128) (j : Fin 1024) :
    k0_pay2 w X (ix2 i j) = ∑ k : Fin 4096, w (ix2 i k) * X (ix2 j k) := by
  pointwise [k0_pay2]

theorem idx_val : ∀ t : Fin cfg0.N, win0_0.index t = ![0, 0] ∧ win0_1.index t = ![0, t.val % 24] ∧ win0_2.index t = ![0, 0]
    ∧ win0_3.index t = ![t.val / 24, t.val % 24] ∧ win0_4.index t = ![0, t.val / 24] :=
  (by decide +kernel : ∀ t : Fin grid0.N, _)

variable (m : (ℓ : Loc nD τ sig) → Buf (Elt Ideal) ℓ) (c : Dev nD)

/-- The gain as a row. -/
theorem gain_at (j : Fin 4096) : gain m c t0 (ix2 0 j) = (m (c.tc.loc main_arg1) : Vec Ideal S4096 .f32) (ix1 j) := by
  have h : (V m c main_v0 : Vec Ideal S1x4096 .f32) = shapeCast S1x4096 (m (c.tc.loc main_arg1) : Vec Ideal S4096 .f32) shapeCasts_S4096_S1x4096 := by
    unfold V hostOps0
    after_results
    rfl
  have e : gain m c t0 (ix2 0 j) = (V m c main_v0 : Vec Ideal S1x4096 .f32) (ix2 0 j) := by
    unfold gain
    blk_ext [iblk, idx_val t0]
  rw [e, h]
  generalize (m (c.tc.loc main_arg1) : Vec Ideal S4096 .f32) = b
  exact Cert.MergeIdeal.Value.row_at (a := 4096) b _ j

/-- The normed rows at a point. -/
theorem rowsAt_at (t : Fin cfg0.N) (r : Fin 1024) (q : Fin 4096) (i : Fin 16384) (hi : i.val = t.val / 24 * 1024 + r.val) :
    rowsAt m c t (ix2 r q) = normRow (fun k => (m (c.tc.loc main_arg0) : Vec Ideal S16384x4096 .f32) (ix2 i k))
      ((m (c.tc.loc main_arg1) : Vec Ideal S4096 .f32) (ix1 q)) q := by
  have ht : t.val < 384 := Nat.lt_of_lt_of_eq t.isLt N_0
  unfold rowsAt
  rw [group, normed_at c _ _ _ (by omega) r q i (by omega), gain_at, V_arg m c main_arg0 (by decide)]

/-- The first array the call leaves. -/
theorem projection : (dats m 0 c).arrAt 3 cfg0.N
    = fun e => projected (m (c.tc.loc main_arg0)) (m (c.tc.loc main_arg1)) (m (c.tc.loc main_arg2)) (e 0) (e 1) := by
  refine (dats m 0 c).arrAt_eq_of_covers 3 _ (by decide +kernel) fun t hf y => ?_
  have g0 : (((cfg0.win 3).blk t).view.emb y 0 : ℕ) = t.val / 24 * 1024 + (y 0 : ℕ) := by blk_simp [idx_val t]
  have g1 : (((cfg0.win 3).blk t).view.emb y 1 : ℕ) = t.val % 24 * 1024 + (y 1 : ℕ) := by blk_simp [idx_val t]
  rw [cast_eq, after3]
  generalize ((cfg0.win 3).blk t).view.emb y = z at g0 g1 ⊢
  idx_vars y
  idx_vars z
  refine (product_at (rowsAt m c t) (wblk m c t) y0 y1).trans ?_
  show _ = projected _ _ _ z0 z1
  unfold projected
  have g0 : z0.val = t.val / 24 * 1024 + y0.val := g0
  have g1 : z1.val = t.val % 24 * 1024 + y1.val := g1
  refine Finset.sum_congr rfl fun k _ => congrArg₂ (· * ·) (rowsAt_at m c t y0 k z0 g0) ?_
  rw [← V_arg m c main_arg2 (by decide)]
  unfold wblk
  blk_ext [iblk, idx_val t]

/-- The second. -/
theorem gates : (dats m 0 c).arrAt 4 cfg0.N
    = fun e => gated (m (c.tc.loc main_arg0)) (m (c.tc.loc main_arg1)) (m (c.tc.loc main_arg3)) (e 0) (e 1) := by
  refine (dats m 0 c).arrAt_eq_of_covers 4 _ (by decide +kernel) fun t hf y => ?_
  have g0 : (((cfg0.win 4).blk t).view.emb y 0 : ℕ) = (y 0 : ℕ) := by blk_simp [idx_val t]
  have g1 : (((cfg0.win 4).blk t).view.emb y 1 : ℕ) = t.val / 24 * 1024 + (y 1 : ℕ) := by blk_simp [idx_val t]
  rw [cast_eq, after4]
  generalize ((cfg0.win 4).blk t).view.emb y = z at g0 g1 ⊢
  idx_vars y
  idx_vars z
  refine (gates_at (wgate m c t0) (rowsAt m c t) y0 y1).trans ?_
  show _ = gated _ _ _ z0 z1
  unfold gated
  have g0 : z0.val = y0.val := g0
  have g1 : z1.val = t.val / 24 * 1024 + y1.val := g1
  refine Finset.sum_congr rfl fun k _ => congrArg₂ (· * ·) ?_ (rowsAt_at m c t y1 k z1 g1)
  rw [← V_arg m c main_arg3 (by decide)]
  unfold wgate
  blk_ext [iblk, idx_val t0]

end Cert.InProjIdeal.Slots

namespace Cert.InProjRefIdeal.Value

open Idealize.ShloMosaic Idealize.ShloMosaic.TcCoe Idealize.SL.Sem Cert.InProjRefIdeal Cert.InProjRefIdeal.Gen

/-- The rows over their root mean squares, times the gain, as the reference computes them. -/
abbrev plainRows (x : Vec Ideal S16384x4096 .f32) (gn : Vec Ideal S4096 .f32) : FVec Ideal S16384x4096 .f32 :=
  mulf (mulf x (broadcastInDim S16384x4096 ![0, 1] bcast_S16384x1_S16384x4096_0_1 (Host.rsqrt (addf (Host.divf
    (broadcastInDim S16384x1 ![0] bcast_S16384_S16384x1_0 (Host.reduceAdd (mulf x x) (constant S_ .f32 0x00000000#32) reducesTo_S16384x4096_S16384_d1 h_S_))
    (broadcastInDim S16384x1 ![] bcast_S_S16384x1 (constant S_ .f32 0x45800000#32))) (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 gn))

/-- The reference's first result at an index. -/
theorem plain_projection (x : Vec Ideal S16384x4096 .f32) (gn : Vec Ideal S4096 .f32) (w : Vec Ideal S4096x24576 .bf16) (e : S16384x24576.Idx) :
    (truncf .bf16 (Host.dotGeneral dot_S16384x4096_S4096x24576_S16384x24576_1_0_0_1_n_n none (plainRows x gn) (extf .f32 w bitsLt_bf16_f32))
      bitsLt_bf16_f32 : FVec Ideal S16384x24576 .bf16) e = Cert.InProjIdeal.Slots.projected x gn w (e 0) (e 1) := by
  unfold plainRows
  idx_vars e
  pointwise
  rfl

/-- The second. -/
theorem plain_gates (x : Vec Ideal S16384x4096 .f32) (gn : Vec Ideal S4096 .f32) (w : Vec Ideal S128x4096 .bf16) (e : S128x16384.Idx) :
    (transpose S128x16384 [1, 0] (Host.dotGeneral dot_S16384x4096_S4096x128_S16384x128_1_0_0_1_n_n none (plainRows x gn)
      (transpose S4096x128 [1, 0] (extf .f32 w bitsLt_bf16_f32) transposes_S128x4096_S4096x128_1_0)) transposes_S16384x128_S128x16384_1_0
        : FVec Ideal S128x16384 .f32) e = Cert.InProjIdeal.Slots.gated x gn w (e 0) (e 1) := by
  unfold plainRows
  idx_vars e
  pointwise
  exact Finset.sum_congr rfl fun k _ => mul_comm _ _

end Cert.InProjRefIdeal.Value

namespace Cert.Proof

open Idealize.ShloMosaic Idealize.ShloMosaic.TcCoe Idealize.SL.Sem

/-- The reference keeps its arguments, and declares no semaphore. -/
theorem in_proj_reference_frame : Cert.quiescent_InProjRefIdeal := fun m g _ =>
  (θ_run Cert.InProjRefIdeal.defs _ _).mono (fun r h => ⟨fun c => (h c).2.2, sem_eq_zero_of_no_sems (by decide) r.2⟩)
    (Cert.InProjRefIdeal.Value.run (F := Ideal) m g)

open Cert.InProjIdeal Cert.InProjIdeal.Slots in
/-- The input projection's call and its reference return the same two arrays. -/
theorem in_proj_equal : Cert.algebraic_InProjIdeal_InProjRefIdeal := by
  intro m g m' g' hp hargs
  refine ⟨fun c e => projected (m (c.tc.loc main_arg0)) (m (c.tc.loc main_arg1)) (m (c.tc.loc main_arg2)) (e 0) (e 1),
    fun c e => gated (m (c.tc.loc main_arg0)) (m (c.tc.loc main_arg1)) (m (c.tc.loc main_arg3)) (e 0) (e 1), ?_, ?_⟩
  · refine (θ_run _ _ _).mono (fun r h c => ?_) (Slots.run (F := Ideal) m g)
    exact ⟨((h.1 c).1 3).trans (projection m c), ((h.1 c).1 4).trans (gates m c), args_kept m r h.1 c⟩
  · refine (θ_run _ _ _).mono (fun r h c => ?_) (Cert.InProjRefIdeal.Value.run (F := Ideal) m' g')
    obtain ⟨e0, e1, e2, e3⟩ := hargs c
    refine ⟨(h c).1.trans ?_, (h c).2.1.trans ?_, (h c).2.2⟩
    · rw [e0, e1, e2]
      exact funext (Cert.InProjRefIdeal.Value.plain_projection _ _ _)
    · rw [e0, e1, e3]
      exact funext (Cert.InProjRefIdeal.Value.plain_gates _ _ _)

end Cert.Proof

end
-- ==== Proof.KerHead.lean ====
/- One head of the kernel's body as one function of what it loads: the printed body carries eight copies of it, cut into values differently,
   and each of them is this function at its own head's loads. -/
module

public import proofs.«01_k».proof.Proof.Gen.KernelIdeal.Skeleton
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KerHead

open Idealize.ShloMosaic Idealize.SL.Sem Cert.KernelIdeal Cert.KernelIdeal.Gen

variable {F : FTy → Type} [FloatOps F]

/-- The row numbers of the sixteen-row operand of the prefix sum. -/
abbrev rowNo : IVec S16x256 32 := iota .tc S16x256 32 [0] iota_S16x256_d0_w32

/-- What a head reads at one grid point: its gate rows and biases, its slices of the queries, keys and values, and its carried state. -/
structure Loads (F : FTy → Type) where
  gi : Vec F S1x256 .f32
  bi : Elt F .f32
  gf : Vec F S1x256 .f32
  bf : Elt F .f32
  q : Vec F S256x256 .bf16
  k : Vec F S256x256 .bf16
  v : Vec F S256x512 .bf16
  ct : Vec F S1x256x640 .f32
  mp : Vec F S1x1x1 .f32

/-- The prefix sums of the log forget gates inside the chunk. -/
def cum (i : grid0.Coords) (x : Loads F) : FVec F S1x256 .f32 := k0_pay12 (k0_pay5 i) rowNo x.gf (k0_pay10 x.bf)

/-- The input gates minus those prefix sums. -/
def rel (i : grid0.Coords) (x : Loads F) : FVec F S1x256 .f32 := k0_pay14 (k0_pay5 i) rowNo (k0_pay9 x.gi x.bi) x.gf (k0_pay10 x.bf)

/-- The same under the mask, row by row. -/
def msk (i : grid0.Coords) (x : Loads F) : FVec F S256x256 .f32 :=
  k0_pay16 (k0_pay5 i) (k0_pay6 i) rowNo (k0_pay9 x.gi x.bi) x.gf (k0_pay10 x.bf)

/-- The maximum a chunk leaves. -/
def top (i : grid0.Coords) (x : Loads F) : FVec F S1x1 .f32 := k0_pay18 (rel i x) (k0_pay15 x.mp)

/-- The block of results a head stores. -/
def headO (i : grid0.Coords) (x : Loads F) : FVec F S1x256x512 .bf16 :=
  k0_pay26 (k0_pay22 k0_pay8 (k0_pay15 x.mp) (msk i x) x.q x.k x.v x.ct) (k0_pay23 k0_pay8 (k0_pay15 x.mp) (msk i x) x.q x.k x.v x.ct)
    (k0_pay24 k0_pay7 (cum i x) (k0_pay15 x.mp) (msk i x)) k0_pay25

/-- The matrix state it stores. -/
def headC (i : grid0.Coords) (x : Loads F) : FVec F S1x256x640 .f32 :=
  k0_pay27 (rel i x) (k0_pay15 x.mp) (top i x) x.k (k0_pay19 k0_pay8 x.v) (k0_pay20 x.ct)

/-- The maximum it stores. -/
def headM (i : grid0.Coords) (x : Loads F) : FVec F S1x8x128 .f32 := k0_pay28 (k0_pay13 x.gf (k0_pay10 x.bf)) (top i x)

theorem inb2 (u : Fin 8) : ∀ a, (![0, 256 * u.val] : Fin 2 → ℕ) a + S256x256.size a ≤ S256x2048.size a := by
  have := u.isLt
  intro a; fin_cases a
  · show 0 + 256 ≤ 256; omega
  · show 256 * u.val + 256 ≤ 2048; omega
theorem inb4 (u : Fin 8) : ∀ a, (![0, 512 * u.val] : Fin 2 → ℕ) a + S256x512.size a ≤ S256x4096.size a := by
  have := u.isLt
  intro a; fin_cases a
  · show 0 + 256 ≤ 256; omega
  · show 512 * u.val + 512 ≤ 4096; omega
theorem inbC (u : Fin 8) : ∀ a, (![u.val, 0, 0] : Fin 3 → ℕ) a + S1x256x640.size a ≤ S8x256x640.size a := by
  have := u.isLt
  intro a; fin_cases a
  · show u.val + 1 ≤ 8; omega
  · show 0 + 256 ≤ 256; omega
  · show 0 + 640 ≤ 640; omega
theorem inbM (u : Fin 8) : ∀ a, (![u.val, 0, 0] : Fin 3 → ℕ) a + S1x1x1.size a ≤ S8x8x128.size a := by
  have := u.isLt
  intro a; fin_cases a
  · show u.val + 1 ≤ 8; omega
  · show 0 + 1 ≤ 8; omega
  · show 0 + 1 ≤ 128; omega

/-- Head `u`'s loads of a point's blocks and of the state carried in. -/
def loads (i : grid0.Coords) (x0 x1 : Vec F S16 .f32) (x2 x3 : Vec F S256x2048 .bf16) (x4 : Vec F S256x4096 .bf16) (x5 x6 : Vec F S8x256 .f32)
    (c0 : Vec F S8x256x640 .f32) (c1 : Vec F S8x8x128 .f32) (u : Fin 8) : Loads F where
  gi := View.ld x5 (Rect.unit (s := S8x256) (k0_off1 i (BitVec.ofNat 32 u.val)) S1x256.size (k0_off1_inb i u))
  bi := View.ld x0 (Rect.unit (s := S16) (k0_off2 i (BitVec.ofNat 32 u.val)) S1.size (k0_off2_inb i u)) (Shape.Idx.first (numel1_S1.symm ▸ Nat.one_pos))
  gf := View.ld x6 (Rect.unit (s := S8x256) (k0_off1 i (BitVec.ofNat 32 u.val)) S1x256.size (k0_off1_inb i u))
  bf := View.ld x1 (Rect.unit (s := S16) (k0_off2 i (BitVec.ofNat 32 u.val)) S1.size (k0_off2_inb i u)) (Shape.Idx.first (numel1_S1.symm ▸ Nat.one_pos))
  q := View.ld x2 (Rect.unit (s := S256x2048) ![0, 256 * u.val] S256x256.size (inb2 u))
  k := View.ld x3 (Rect.unit (s := S256x2048) ![0, 256 * u.val] S256x256.size (inb2 u))
  v := View.ld x4 (Rect.unit (s := S256x4096) ![0, 512 * u.val] S256x512.size (inb4 u))
  ct := View.ld c0 (Rect.unit (s := S8x256x640) ![u.val, 0, 0] S1x256x640.size (inbC u))
  mp := View.ld c1 (Rect.unit (s := S8x8x128) ![u.val, 0, 0] S1x1x1.size (inbM u))

/-- The block of results of all eight heads. -/
def blockO (i : grid0.Coords) (L : Fin 8 → Loads F) : Vec F S1x256x4096 .bf16 := fun y =>
  headO i (L ⟨(y 2).val / 512, by have h : (y 2).val < 4096 := (y 2).isLt; omega⟩)
    (ix3 ⟨0, by decide⟩ ⟨(y 1).val, (y 1).isLt⟩ ⟨(y 2).val % 512, Nat.mod_lt _ (by decide)⟩)

theorem blockO_at (i : grid0.Coords) (L : Fin 8 → Loads F) (u : Fin 8) (x : S1x256x512.Idx) (y : S1x256x4096.Idx)
    (h1 : (y 1 : ℕ) = x 1) (h2 : (y 2 : ℕ) = 512 * u.val + x 2) : headO i (L u) x = blockO i L y := by
  have hx : (x 2 : ℕ) < 512 := (x 2).isLt
  have h0 : (x 0 : ℕ) < 1 := (x 0).isLt
  unfold blockO
  congr 2
  · exact Fin.ext (by show u.val = (y 2 : ℕ) / 512; omega)
  · funext a
    refine Fin.ext ?_
    fin_cases a
    · show (x 0 : ℕ) = 0; omega
    · exact h1.symm
    · show (x 2 : ℕ) = (y 2 : ℕ) % 512; omega

/-- The matrix states of all eight heads. -/
def blockC (i : grid0.Coords) (L : Fin 8 → Loads F) : Vec F S8x256x640 .f32 := fun y =>
  headC i (L ⟨(y 0).val, (y 0).isLt⟩) (ix3 ⟨0, by decide⟩ ⟨(y 1).val, (y 1).isLt⟩ ⟨(y 2).val, (y 2).isLt⟩)

theorem blockC_at (i : grid0.Coords) (L : Fin 8 → Loads F) (u : Fin 8) (x : S1x256x640.Idx) (y : S8x256x640.Idx)
    (h0 : (y 0 : ℕ) = u.val + x 0) (h1 : (y 1 : ℕ) = x 1) (h2 : (y 2 : ℕ) = x 2) : headC i (L u) x = blockC i L y := by
  have h : (x 0 : ℕ) < 1 := (x 0).isLt
  unfold blockC
  congr 2
  · exact Fin.ext (by show u.val = (y 0 : ℕ); omega)
  · funext a
    refine Fin.ext ?_
    fin_cases a
    · show (x 0 : ℕ) = 0; omega
    · exact h1.symm
    · exact h2.symm

/-- The maxima of all eight heads. -/
def blockM (i : grid0.Coords) (L : Fin 8 → Loads F) : Vec F S8x8x128 .f32 := fun y =>
  headM i (L ⟨(y 0).val, (y 0).isLt⟩) (ix3 ⟨0, by decide⟩ ⟨(y 1).val, (y 1).isLt⟩ ⟨(y 2).val, (y 2).isLt⟩)

theorem blockM_at (i : grid0.Coords) (L : Fin 8 → Loads F) (u : Fin 8) (x : S1x8x128.Idx) (y : S8x8x128.Idx)
    (h0 : (y 0 : ℕ) = u.val + x 0) (h1 : (y 1 : ℕ) = x 1) (h2 : (y 2 : ℕ) = x 2) : headM i (L u) x = blockM i L y := by
  have h : (x 0 : ℕ) < 1 := (x 0).isLt
  unfold blockM
  congr 2
  · exact Fin.ext (by show u.val = (y 0 : ℕ); omega)
  · funext a
    refine Fin.ext ?_
    fin_cases a
    · show (x 0 : ℕ) = 0; omega
    · exact h1.symm
    · exact h2.symm

end Cert.KerHead

end
-- ==== Proof.Chunk.lean ====
/- The recurrence over the real numbers, in closed form, and what one chunk of any length does to it: prefix sums, running maxima and weighted
   sums over a stretch of times, summed over the lanes of a chunk in either order. -/
module

public import Idealize.ShloMosaic.PureOps.Ideal
public import Idealize.ShloMosaic.Lib.Pointwise

@[expose] public section

noncomputable section

namespace Cert.Chunk

open Finset

/-- The sum of a sequence over the times before `T`. -/
def pre (f : ℕ → ℝ) (T : ℕ) : ℝ := ∑ s ∈ range T, f s

/-- The input gate at a time, relative to the decay accumulated up to and including that time. -/
def relGate (f i : ℕ → ℝ) (s : ℕ) : ℝ := i s - pre f (s + 1)

/-- The running maximum of a sequence, started at zero. -/
def run (r : ℕ → ℝ) : ℕ → ℝ
  | 0 => 0
  | T + 1 => max (run r T) (r T)

/-- The sum over the times before `T` of `u`, each weighted by `exp (r s)` over the exponential of the running maximum. -/
def wsum (r u : ℕ → ℝ) (T : ℕ) : ℝ := ∑ s ∈ range T, Real.exp (r s - run r T) * u s

theorem pre_succ (f : ℕ → ℝ) (T : ℕ) : pre f (T + 1) = pre f T + f T := sum_range_succ _ _

theorem pre_zero (f : ℕ → ℝ) : pre f 0 = 0 := rfl
theorem run_zero (f : ℕ → ℝ) : run f 0 = 0 := rfl
theorem wsum_zero (r u : ℕ → ℝ) : wsum r u 0 = 0 := rfl

/-- A sum over the lanes up to a lane, in the order `σ`, is the sum over the times they stand for. -/
theorem sum_lanes {M : Type} [AddCommMonoid M] {L : ℕ} (σ : Equiv.Perm (Fin L)) (F : ℕ → M) (T : ℕ) (j : ℕ) (hj : j < L) :
    (∑ l : Fin L, if (σ l : ℕ) ≤ j then F (T + (σ l : ℕ)) else 0) = ∑ s ∈ range (j + 1), F (T + s) := by
  rw [Equiv.sum_comp σ (fun l : Fin L => if (l : ℕ) ≤ j then F (T + (l : ℕ)) else 0),
    Fin.sum_univ_eq_sum_range (fun l => if l ≤ j then F (T + l) else 0) L, ← sum_filter]
  refine sum_congr ?_ fun _ _ => rfl
  ext s
  simp only [mem_filter, mem_range]
  omega

/-- The sum over all the lanes. -/
theorem sum_lanes_all {M : Type} [AddCommMonoid M] {L : ℕ} (σ : Equiv.Perm (Fin L)) (F : ℕ → M) (T : ℕ) :
    (∑ l : Fin L, F (T + (σ l : ℕ))) = ∑ s ∈ range L, F (T + s) := by
  rw [Equiv.sum_comp σ (fun l : Fin L => F (T + (l : ℕ))), Fin.sum_univ_eq_sum_range (fun l => F (T + l)) L]

theorem pre_add (f : ℕ → ℝ) (T n : ℕ) : ∑ s ∈ range n, f (T + s) = pre f (T + n) - pre f T := by
  unfold pre; rw [sum_range_add]; ring

/-- Prefix sums inside a chunk. -/
theorem pre_lanes {L : ℕ} (σ : Equiv.Perm (Fin L)) (f : ℕ → ℝ) (T j : ℕ) (hj : j < L) :
    (∑ l : Fin L, if (σ l : ℕ) ≤ j then f (T + (σ l : ℕ)) else 0) = pre f (T + j + 1) - pre f T := by
  rw [sum_lanes σ f T j hj, pre_add]; rfl

theorem pre_lanes_all {L : ℕ} (σ : Equiv.Perm (Fin L)) (f : ℕ → ℝ) (T : ℕ) :
    (∑ l : Fin L, f (T + (σ l : ℕ))) = pre f (T + L) - pre f T := by
  rw [sum_lanes_all, pre_add]

/-- An upper bound of the running maximum after `n` further times. -/
theorem run_le (r : ℕ → ℝ) (a : ℝ) (T n : ℕ) (c : EReal) :
    ((run r (T + n) + a : ℝ) : EReal) ≤ c ↔ ((run r T + a : ℝ) : EReal) ≤ c ∧ ∀ s < n, ((r (T + s) + a : ℝ) : EReal) ≤ c := by
  induction n with
  | zero => simp
  | succ n ih =>
    have e : run r (T + (n + 1)) + a = max (run r (T + n) + a) (r (T + n) + a) := by
      show max (run r (T + n)) (r (T + n)) + a = _
      exact max_add_add_right _ _ _ |>.symm
    rw [e, EReal.coe_strictMono.monotone.map_max, max_le_iff, ih]
    constructor
    · rintro ⟨⟨h1, h2⟩, h3⟩
      refine ⟨h1, fun s hs => ?_⟩
      rcases Nat.lt_succ_iff_lt_or_eq.mp hs with h | h
      · exact h2 s h
      · exact h ▸ h3
    · rintro ⟨h1, h2⟩
      exact ⟨⟨h1, fun s hs => h2 s (Nat.lt_succ_of_lt hs)⟩, h2 n (Nat.lt_succ_self n)⟩

/-- The maximum over the lanes up to a lane, and what was carried in, is the running maximum after them. -/
theorem run_lanes {L : ℕ} (σ : Equiv.Perm (Fin L)) (r : ℕ → ℝ) (a : ℝ) (T j : ℕ) (hj : j < L) (g : Fin L → EReal)
    (hg : ∀ l, g l = if (σ l : ℕ) ≤ j then ((r (T + (σ l : ℕ)) + a : ℝ) : EReal) else ⊥) :
    max (univ.fold max ⊥ g) ((run r T + a : ℝ) : EReal) = ((run r (T + j + 1) + a : ℝ) : EReal) := by
  refine eq_of_forall_ge_iff fun c => ?_
  rw [max_le_iff, show T + j + 1 = T + (j + 1) from rfl, run_le, Finset.fold_max_le, and_comm]
  refine and_congr_right fun _ => ?_
  constructor
  · rintro ⟨-, h⟩ s hs
    have := h (σ.symm ⟨s, by omega⟩) (mem_univ _)
    rw [hg, Equiv.apply_symm_apply, if_pos (by simp only; omega)] at this
    exact this
  · intro h
    refine ⟨bot_le, fun l _ => ?_⟩
    rw [hg]
    by_cases hl : (σ l : ℕ) ≤ j
    · rw [if_pos hl]; exact h _ (by omega)
    · rw [if_neg hl]; exact bot_le

/-- The same over all the lanes. -/
theorem run_lanes_all {L : ℕ} (σ : Equiv.Perm (Fin L)) (r : ℕ → ℝ) (a : ℝ) (T : ℕ) (hL : 0 < L) (g : Fin L → EReal)
    (hg : ∀ l, g l = ((r (T + (σ l : ℕ)) + a : ℝ) : EReal)) :
    max (univ.fold max ⊥ g) ((run r T + a : ℝ) : EReal) = ((run r (T + L) + a : ℝ) : EReal) := by
  obtain ⟨j, rfl⟩ : ∃ j, L = j + 1 := ⟨L - 1, by omega⟩
  refine (run_lanes σ r a T j (by omega) g fun l => ?_)
  rw [hg, if_pos (by have := (σ l).isLt; omega)]

/-- A weighted sum after `n` further times. -/
theorem wsum_add (r u : ℕ → ℝ) (T n : ℕ) :
    wsum r u (T + n) = Real.exp (run r T - run r (T + n)) * wsum r u T
      + ∑ s ∈ range n, Real.exp (r (T + s) - run r (T + n)) * u (T + s) := by
  unfold wsum
  rw [sum_range_add, mul_sum]
  congr 1
  refine sum_congr rfl fun s _ => ?_
  rw [← mul_assoc, ← Real.exp_add]
  congr 2; ring

/-- A weighted sum after the lanes up to a lane. -/
theorem wsum_lanes {L : ℕ} (σ : Equiv.Perm (Fin L)) (r u : ℕ → ℝ) (T j : ℕ) (hj : j < L) :
    Real.exp (run r T - run r (T + j + 1)) * wsum r u T
      + (∑ l : Fin L, if (σ l : ℕ) ≤ j then Real.exp (r (T + (σ l : ℕ)) - run r (T + j + 1)) * u (T + (σ l : ℕ)) else 0)
    = wsum r u (T + j + 1) := by
  rw [sum_lanes σ (fun s => Real.exp (r s - run r (T + j + 1)) * u s) T j hj, show T + j + 1 = T + (j + 1) from rfl, wsum_add]

/-- A weighted sum after the whole chunk. -/
theorem wsum_lanes_all {L : ℕ} (σ : Equiv.Perm (Fin L)) (r u : ℕ → ℝ) (T : ℕ) :
    Real.exp (run r T - run r (T + L)) * wsum r u T + (∑ l : Fin L, Real.exp (r (T + (σ l : ℕ)) - run r (T + L)) * u (T + (σ l : ℕ)))
    = wsum r u (T + L) := by
  rw [sum_lanes_all σ (fun s => Real.exp (r s - run r (T + L)) * u s) T, wsum_add]

/-- Weighted sums are linear in what they weigh. -/
theorem wsum_sum {ι : Type} [Fintype ι] (r : ℕ → ℝ) (u : ι → ℕ → ℝ) (T : ℕ) :
    (∑ e, wsum r (u e) T) = wsum r (fun s => ∑ e, u e s) T := by
  unfold wsum
  rw [sum_comm]
  exact sum_congr rfl fun s _ => (mul_sum _ _ _).symm

theorem wsum_smul (r u : ℕ → ℝ) (a : ℝ) (T : ℕ) : a * wsum r u T = wsum r (fun s => a * u s) T := by
  unfold wsum
  rw [mul_sum]
  exact sum_congr rfl fun s _ => by ring

/-- The logarithm of the logistic function, in the form that never overflows. -/
def logSig (x : ℝ) : ℝ := min x 0 - Real.log (1 + Real.exp (-|x|))

/-- The output at a time: the weighted sum of the values over the larger of the weighted sum of the weights and the floor. -/
def outAt (f i : ℕ → ℝ) (z v : ℕ → ℝ) (t : ℕ) : ℝ :=
  wsum (relGate f i) (fun s => z s * v s) (t + 1)
    / max |wsum (relGate f i) z (t + 1)| (Real.exp (-(pre f (t + 1) + run (relGate f i) (t + 1))))

theorem floor_pos (a b : ℝ) : 0 < max |a| (Real.exp b) := lt_max_of_lt_right (Real.exp_pos b)

end Cert.Chunk

end
-- ==== Proof.Reals.lean ====
/- Extended reals that are real numbers: sums, the constants of the two programs, the log of the logistic function, and the order of the lanes
   of a chunk in each direction. -/
module

public import proofs.«01_k».proof.Proof.Chunk

@[expose] public section

noncomputable section

namespace Cert.Chunk

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of real terms is their real sum. -/
theorem sum_coe {ι : Type} (s : Finset ι) (g : ι → EReal) (f : ι → ℝ) (h : ∀ i, g i = (f i : EReal)) :
    ∑ i ∈ s, g i = ((∑ i ∈ s, f i : ℝ) : EReal) := by
  rw [coe_sum]; exact Finset.sum_congr rfl fun i _ => h i

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- The constants of the two programs. -/
theorem const_bot : Ideal.ofBits .f32 0xFF800000#32 = ⊥ := by
  simp [Ideal.ofBits, Ideal.ieee]
theorem const_scale : Ideal.ofBits .f32 0x3D800000#32 = ((1 / 16 : ℝ) : EReal) := by
  simp [Ideal.ofBits, Ideal.ieee, -EReal.coe_mul]
  norm_num
theorem const_inf : Ideal.ofBits .f32 0x7F800000#32 = ⊤ := by
  simp [Ideal.ofBits, Ideal.ieee]

theorem abs_coe (x : ℝ) : max (x : EReal) (-(x : EReal)) = ((|x| : ℝ) : EReal) := by
  rw [← EReal.coe_neg, coe_max]; rfl

theorem log1p_exp (x : ℝ) : Ideal.log1p (Ideal.exp (x : EReal)) = ((Real.log (1 + Real.exp x) : ℝ) : EReal) := by
  show Ideal.log (1 + Ideal.exp (x : EReal)) = _
  rw [Ideal.exp_coe, show (1 : EReal) = ((1 : ℝ) : EReal) from rfl, ← EReal.coe_add, Ideal.log_coe, if_neg]
  have := Real.exp_pos x
  linarith

/-- The kernel's form of the log of the logistic function. -/
theorem logSig_min (x : ℝ) :
    min (x : EReal) 0 - Ideal.log1p (Ideal.exp (0 - max (x : EReal) (-(x : EReal)))) = ((logSig x : ℝ) : EReal) := by
  rw [abs_coe, show (0 : EReal) = ((0 : ℝ) : EReal) from rfl, ← EReal.coe_sub, log1p_exp, coe_min, ← EReal.coe_sub, zero_sub]; rfl

/-- The reference's form. -/
theorem logSig_max (x : ℝ) :
    -(max (-(x : EReal)) 0 + Ideal.log1p (Ideal.exp (-(max (x : EReal) (-(x : EReal)))))) = ((logSig x : ℝ) : EReal) := by
  rw [abs_coe, show (0 : EReal) = ((0 : ℝ) : EReal) from rfl, ← EReal.coe_neg, ← EReal.coe_neg, log1p_exp, coe_max, ← EReal.coe_add, ← EReal.coe_neg]
  congr 1
  unfold logSig
  have : max (-x) 0 = -(min x 0) := by rw [← max_neg_neg, neg_zero]
  rw [this]; ring

/-- The order of the lanes of a chunk: the first direction reads them forwards, the second backwards. -/
def ord (d L : ℕ) : Equiv.Perm (Fin L) := if d = 0 then Equiv.refl _ else Fin.revPerm

theorem ord_zero (L : ℕ) (l : Fin L) : ord 0 L l = l := rfl

theorem ord_one (L : ℕ) (l : Fin L) : ((ord 1 L l : Fin L) : ℕ) = L - 1 - l := by
  show ((Fin.rev l : Fin L) : ℕ) = _
  rw [Fin.val_rev]; omega

/-- A contraction of the state is a weighted sum of contractions. -/
theorem contract {ι : Type} [Fintype ι] (r : ℕ → ℝ) (q : ι → ℝ) (k : ℕ → ι → ℝ) (w : ℕ → ℝ) (a : ℝ) (T : ℕ) :
    a * (∑ e, q e * wsum r (fun s => k s e * w s) T) = wsum r (fun s => (∑ e, q e * k s e) * a * w s) T := by
  simp only [wsum_smul]
  rw [wsum_sum, wsum_smul]
  congr 1
  funext s
  rw [Finset.sum_mul, Finset.sum_mul, Finset.mul_sum]
  exact Finset.sum_congr rfl fun e _ => by ring

/-- A floor above zero makes the quotient of two reals a real. -/
theorem div_floor (n a b : ℝ) :
    Ideal.div (n : EReal) (max (max (a : EReal) (-(a : EReal))) (Ideal.exp (-(b : EReal)))) = ((n / max |a| (Real.exp (-b)) : ℝ) : EReal) := by
  rw [abs_coe, ← EReal.coe_neg, Ideal.exp_coe, coe_max, Ideal.div_coe (floor_pos a (-b)).ne', ← EReal.coe_mul, mul_one_div]

end Cert.Chunk

end
-- ==== Proof.KerPure.lean ====
/- One head of the kernel over the real numbers: what it stores, at an index, is the recurrence in closed form at the time its lane stands for. -/
module

public import proofs.«01_k».proof.Proof.KerHead
public import proofs.«01_k».proof.Proof.Reals

@[expose] public section

set_option maxRecDepth 16384

noncomputable section

namespace Cert.KerHead

open Idealize.ShloMosaic Idealize.ShloMosaic.TcCoe Idealize.SL.Sem Cert.KernelIdeal Cert.KernelIdeal.Gen Cert.Chunk

theorem word_one : FloatOps.sitofp (F := Ideal) .f32 (BitVec.setWidth 32 (1#1)) = ((1 : ℝ) : EReal) := by
  show (((BitVec.setWidth 32 (1#1)).toInt : ℝ) : EReal) = _
  simp
theorem word_zero : FloatOps.sitofp (F := Ideal) .f32 (BitVec.setWidth 32 (0#1)) = ((0 : ℝ) : EReal) := by
  show (((BitVec.setWidth 32 (0#1)).toInt : ℝ) : EReal) = _
  simp

/-- The order of a grid point's lanes. -/
abbrev lane (i : grid0.Coords) : Equiv.Perm (Fin 256) := ord (i 0).val 256

theorem word_sub (a b : Fin 256) : (BitVec.ofNat 32 a - BitVec.ofNat 32 b).toInt = (a : ℤ) - (b : ℤ) := by
  have ha := a.isLt
  have hb := b.isLt
  rw [BitVec.toInt_sub, BitVec.toInt_ofNat', BitVec.toInt_ofNat']
  simp only [Int.bmod]
  omega

/-- Two lane numbers are equal as words only when they are equal. -/
theorem word_eq (a b : ℕ) (ha : a < 1024) (hb : b < 1024) :
    IntOp.cmpi CmpIPredicate.eq (BitVec.ofNat 32 a) (BitVec.ofNat 32 b) = if a = b then 1#1 else 0#1 := by
  show BitVec.ofBool (BitVec.ofNat 32 a == BitVec.ofNat 32 b) = _
  by_cases h : a = b
  · subst h; simp
  · rw [if_neg h, beq_eq_false_iff_ne.mpr]
    · rfl
    · intro hh
      have := congrArg BitVec.toNat hh
      rw [BitVec.toNat_ofNat, BitVec.toNat_ofNat] at this
      omega

/-- The sign comparison of two lane numbers is their order in the point's direction. -/
theorem cmp_lane (i : grid0.Coords) (a b : Fin 256) :
    IntOp.cmpi .sle (IntOp.muli (IntOp.subi (BitVec.ofNat 32 a) (BitVec.ofNat 32 b)) (Scalar.subi (1#32) (Scalar.muli (2#32) (BitVec.ofNat 32 (i 0).val)))) 0#32
      = if (lane i a : ℕ) ≤ (lane i b : ℕ) then 1#1 else 0#1 := by
  have hi : (i 0).val < 2 := (i 0).isLt
  have ha := a.isLt
  have hb := b.isLt
  have e := word_sub a b
  have e' := word_sub b a
  obtain h | h : (i 0).val = 0 ∨ (i 0).val = 1 := by omega
  · simp only [lane, h, ord_zero]
    rw [show Scalar.subi (1#32) (Scalar.muli 2#32 (BitVec.ofNat 32 0)) = 1#32 from rfl]
    show BitVec.ofBool (BitVec.sle ((BitVec.ofNat 32 (a : ℕ) - BitVec.ofNat 32 (b : ℕ)) * 1#32) 0#32) = _
    rw [BitVec.mul_one, BitVec.sle_eq_decide, e]
    by_cases hab : (a : ℕ) ≤ b
    · rw [if_pos hab, decide_eq_true (by simp; omega)]; rfl
    · rw [if_neg hab, decide_eq_false (by simp; omega)]; rfl
  · simp only [lane, h, ord_one]
    rw [show Scalar.subi (1#32) (Scalar.muli 2#32 (BitVec.ofNat 32 1)) = -1#32 from rfl]
    show BitVec.ofBool (BitVec.sle ((BitVec.ofNat 32 (a : ℕ) - BitVec.ofNat 32 (b : ℕ)) * -1#32) 0#32) = _
    rw [BitVec.mul_neg, BitVec.mul_one, show ∀ x y : BitVec 32, -(x - y) = y - x from fun x y => by rw [BitVec.neg_sub, BitVec.add_comm, ← BitVec.sub_eq_add_neg], BitVec.sle_eq_decide, e']
    by_cases hab : (b : ℕ) ≤ a
    · rw [if_pos (by omega), decide_eq_true (by simp; omega)]; rfl
    · rw [if_neg (by omega), decide_eq_false (by simp; omega)]; rfl

theorem pay5_at (i : grid0.Coords) (a b : Fin 256) :
    k0_pay5 (F := Ideal) i (ix2 a b) = (((if (lane i a : ℕ) ≤ (lane i b : ℕ) then 1 else 0 : ℝ)) : EReal) := by
  pointwise [k0_pay5]
  rw [cmp_lane]
  split
  · exact word_one
  · exact word_zero

theorem pay6_at (i : grid0.Coords) (a b : Fin 256) :
    k0_pay6 i (ix2 a b) = if (lane i b : ℕ) ≤ (lane i a : ℕ) then 1#1 else 0#1 := by
  pointwise [k0_pay6]
  exact cmp_lane i b a

/-- The values a head sums: its columns of values, then a column of ones, then zeros. -/
def aug (v : Fin 512 → ℝ) (c : Fin 640) : ℝ := if h : c.val < 512 then v ⟨c.val, h⟩ else if c.val = 512 then 1 else 0

/-- What a head reads at a chunk starting at time `T`, over the real numbers: the gates, the queries, keys and values of the times its lanes stand
    for, and the state after the times before `T`. -/
structure Reads (i : grid0.Coords) (x : Loads Ideal) (T : ℕ) (ig xf : ℕ → ℝ) (q k : ℕ → Fin 256 → ℝ) (v : ℕ → Fin 512 → ℝ) : Prop where
  hgi : ∀ l : Fin 256, k0_pay9 x.gi x.bi (ix2 0 l) = ((ig (T + (lane i l : ℕ)) : ℝ) : EReal)
  hgf : ∀ l : Fin 256, k0_pay9 x.gf x.bf (ix2 0 l) = ((xf (T + (lane i l : ℕ)) : ℝ) : EReal)
  hq : ∀ (l : Fin 256) (e : Fin 256), x.q (ix2 l e) = ((q (T + (lane i l : ℕ)) e : ℝ) : EReal)
  hk : ∀ (l : Fin 256) (e : Fin 256), x.k (ix2 l e) = ((k (T + (lane i l : ℕ)) e : ℝ) : EReal)
  hv : ∀ (l : Fin 256) (c : Fin 512), x.v (ix2 l c) = ((v (T + (lane i l : ℕ)) c : ℝ) : EReal)
  hct : ∀ (e : Fin 256) (c : Fin 640), x.ct (ix3 0 e c)
    = ((wsum (relGate (fun s => logSig (xf s)) ig) (fun s => k s e * aug (v s) c) T : ℝ) : EReal)
  hmp : x.mp (ix3 0 0 0) = ((run (relGate (fun s => logSig (xf s)) ig) T + pre (fun s => logSig (xf s)) T : ℝ) : EReal)

variable {i : grid0.Coords} {x : Loads Ideal} {T : ℕ} {ig xf : ℕ → ℝ} {q k : ℕ → Fin 256 → ℝ} {v : ℕ → Fin 512 → ℝ}

theorem gate_at (h : Reads i x T ig xf q k v) (l : Fin 256) :
    k0_pay11 x.gf (k0_pay10 x.bf) (ix2 0 l) = ((logSig (xf (T + (lane i l : ℕ))) : ℝ) : EReal) := by
  have e := h.hgf l
  pointwise [k0_pay9] at e
  pointwise [k0_pay11, k0_pay10, e]
  exact logSig_min _

theorem cum_at (h : Reads i x T ig xf q k v) (l : Fin 256) :
    cum i x (ix2 0 l) = ((pre (fun s => logSig (xf s)) (T + (lane i l : ℕ) + 1) - pre (fun s => logSig (xf s)) T : ℝ) : EReal) := by
  unfold cum
  pointwise [k0_pay12]
  have z : ∀ y : Fin 256, k0_pay11 x.gf (k0_pay10 x.bf) (ix2 0 y) - k0_pay11 x.gf (k0_pay10 x.bf) (ix2 0 y) = 0 := by
    intro y
    rw [gate_at h, ← EReal.coe_sub, sub_self]; rfl
  have e1 : Scalar.select (α := EReal) (IntOp.cmpi CmpIPredicate.eq 1#32 0#32) = fun _ b => b := rfl
  have e2 : Scalar.select (α := EReal) (IntOp.cmpi CmpIPredicate.eq 2#32 0#32) = fun _ b => b := rfl
  have e3 : Scalar.select (α := EReal) (IntOp.cmpi CmpIPredicate.eq 2#32 1#32) = fun _ b => b := rfl
  simp only [z]
  simp only [e1, e2, e3, sub_zero, zero_mul, Finset.sum_const_zero, add_zero]
  rw [← pre_lanes (lane i) (fun s => logSig (xf s)) T (lane i l) (lane i l).isLt]
  refine sum_coe _ _ _ fun y => ?_
  rw [gate_at h, pay5_at, ← EReal.coe_mul]
  split <;> simp

theorem total_at (h : Reads i x T ig xf q k v) :
    k0_pay13 x.gf (k0_pay10 x.bf) (ix2 0 0) = ((pre (fun s => logSig (xf s)) (T + 256) - pre (fun s => logSig (xf s)) T : ℝ) : EReal) := by
  pointwise [k0_pay13]
  rw [← pre_lanes_all (lane i) (fun s => logSig (xf s)) T]
  exact sum_coe _ _ _ fun y => gate_at h y

theorem rel_at (h : Reads i x T ig xf q k v) (l : Fin 256) :
    rel i x (ix2 0 l) = ((relGate (fun s => logSig (xf s)) ig (T + (lane i l : ℕ)) + pre (fun s => logSig (xf s)) T : ℝ) : EReal) := by
  have e := cum_at h l
  unfold cum at e
  unfold rel
  pointwise [k0_pay14]
  rw [e, h.hgi, ← EReal.coe_sub]
  unfold relGate
  congr 1
  ring

theorem msk_at (h : Reads i x T ig xf q k v) (a l : Fin 256) :
    msk i x (ix2 a l) = if (lane i l : ℕ) ≤ (lane i a : ℕ)
      then ((relGate (fun s => logSig (xf s)) ig (T + (lane i l : ℕ)) + pre (fun s => logSig (xf s)) T : ℝ) : EReal) else ⊥ := by
  have e := rel_at h l
  unfold rel at e
  unfold msk
  pointwise [k0_pay16]
  rw [e, const_bot, pay6_at]
  split <;> rfl

theorem mp_at (h : Reads i x T ig xf q k v) :
    k0_pay15 x.mp (ix2 0 0) = ((run (relGate (fun s => logSig (xf s)) ig) T + pre (fun s => logSig (xf s)) T : ℝ) : EReal) := by
  pointwise [k0_pay15]
  exact h.hmp

theorem top_at (h : Reads i x T ig xf q k v) :
    top i x (ix2 0 0) = ((run (relGate (fun s => logSig (xf s)) ig) (T + 256) + pre (fun s => logSig (xf s)) T : ℝ) : EReal) := by
  unfold top
  pointwise [k0_pay18, k0_pay15]
  rw [const_bot, h.hmp]
  exact run_lanes_all (lane i) _ _ T (by decide) _ fun l => rel_at h l

theorem col_at (h : Reads i x T ig xf q k v) (a : Fin 256) :
    k0_pay17 (k0_pay15 x.mp) (msk i x) (ix2 a 0)
      = ((run (relGate (fun s => logSig (xf s)) ig) (T + (lane i a : ℕ) + 1) + pre (fun s => logSig (xf s)) T : ℝ) : EReal) := by
  pointwise [k0_pay17, k0_pay15]
  rw [const_bot, h.hmp]
  exact run_lanes (lane i) _ _ T (lane i a) (lane i a).isLt _ fun l => msk_at h a l

theorem aug_at (h : Reads i x T ig xf q k v) (l : Fin 256) (c : Fin 640) :
    k0_pay19 k0_pay8 x.v (ix2 l c) = ((aug (v (T + (lane i l : ℕ))) c : ℝ) : EReal) := by
  pointwise [k0_pay19, k0_pay8]
  unfold aug
  split
  · exact h.hv l _
  · rename_i hc
    have := c.isLt
    have e : (IntOp.cmpi CmpIPredicate.eq (BitVec.ofNat 32 ((c : ℕ) - 512)) 0#32) = if (c : ℕ) = 512 then 1#1 else 0#1 := by
      rw [word_eq _ 0 (by omega) (by omega)]
      exact if_congr (by omega) rfl rfl
    rw [e]
    split
    · exact word_one
    · exact word_zero

/-- The numerator and, in column 512, the denominator. -/
theorem numden_at (h : Reads i x T ig xf q k v) (a : Fin 256) (c : Fin 640) :
    k0_pay21 k0_pay8 (k0_pay15 x.mp) (msk i x) x.q x.k x.v x.ct (ix2 a c)
      = ((wsum (relGate (fun s => logSig (xf s)) ig)
          (fun s => (∑ e, q (T + (lane i a : ℕ)) e * k s e) * (1 / 16) * aug (v s) c) (T + (lane i a : ℕ) + 1) : ℝ) : EReal) := by
  have ha := aug_at h
  pointwise [k0_pay19, k0_pay8] at ha
  pointwise [k0_pay21, k0_pay19, k0_pay8, k0_pay20]
  rw [← wsum_lanes (lane i) _ _ T (lane i a) (lane i a).isLt, EReal.coe_add]
  refine Ideal.add_congr ?_ ?_
  · rw [mp_at h, col_at h, const_scale, ← EReal.coe_sub, Ideal.exp_coe, ← EReal.coe_mul,
      sum_coe _ _ (fun e => q (T + (lane i a : ℕ)) e * wsum (relGate (fun s => logSig (xf s)) ig) (fun s => k s e * aug (v s) c) T)
        (fun e => by rw [h.hq, h.hct, ← EReal.coe_mul]), ← EReal.coe_mul]
    congr 1
    rw [← contract, mul_assoc]
    congr 2; ring
  · refine sum_coe _ _ _ fun l => ?_
    rw [ha, msk_at h, col_at h, const_scale,
      sum_coe _ _ (fun e => q (T + (lane i a : ℕ)) e * k (T + (lane i l : ℕ)) e) (fun e => by rw [h.hq, h.hk, ← EReal.coe_mul])]
    split
    · rw [← EReal.coe_sub, Ideal.exp_coe, ← EReal.coe_mul, ← EReal.coe_mul, ← EReal.coe_mul]
      congr 1
      rw [add_sub_add_right_eq_sub]
      ring
    · rw [EReal.bot_sub, Ideal.exp_bot, mul_zero, zero_mul]; rfl

theorem diag_at (h : Reads i x T ig xf q k v) (a : Fin 256) :
    k0_pay24 k0_pay7 (cum i x) (k0_pay15 x.mp) (msk i x) (ix2 a 0)
      = ((pre (fun s => logSig (xf s)) (T + (lane i a : ℕ) + 1) + run (relGate (fun s => logSig (xf s)) ig) (T + (lane i a : ℕ) + 1) : ℝ) : EReal) := by
  have hc := col_at h a
  pointwise [k0_pay24, k0_pay7]
  rw [hc, Finset.sum_eq_single a]
  · have e : IntOp.cmpi CmpIPredicate.eq (BitVec.ofNat 32 (a : ℕ)) (BitVec.ofNat 32 (a : ℕ)) = 1#1 := by simp [IntOp.cmpi]
    rw [e]
    refine (Ideal.add_congr (cum_at h a) rfl).trans ?_
    rw [← EReal.coe_add]
    refine congrArg (fun y : ℝ => (y : EReal)) ?_
    ring
  · intro b _ hb
    have e : IntOp.cmpi CmpIPredicate.eq (BitVec.ofNat 32 (a : ℕ)) (BitVec.ofNat 32 (b : ℕ)) = 0#1 := by
      rw [word_eq _ _ (by omega) (by omega), if_neg (fun hh => hb (Fin.ext hh.symm))]
    rw [e]; rfl
  · intro hn; exact absurd (Finset.mem_univ a) hn

/-- What a head stores of its results. -/
theorem headO_at (h : Reads i x T ig xf q k v) (a : Fin 256) (c : Fin 512) :
    headO i x (ix3 0 a c) = ((outAt (fun s => logSig (xf s)) ig (fun s => (∑ e, q (T + (lane i a : ℕ)) e * k s e) * (1 / 16))
      (fun s => v s c) (T + (lane i a : ℕ)) : ℝ) : EReal) := by
  have hn := numden_at h a ⟨c.val, by omega⟩
  have hd := numden_at h a ⟨512, by decide⟩
  have hg := diag_at h a
  unfold headO
  pointwise [k0_pay26, k0_pay25, k0_pay22, k0_pay23]
  rw [hn, hg, show k0_pay21 k0_pay8 (k0_pay15 x.mp) (msk i x) x.q x.k x.v x.ct (ix2 a 512) = _ from hd]
  show _ * Ideal.div 1 (max (max _ (-_)) _) = _
  rw [zero_sub, ← EReal.coe_one, div_floor, ← EReal.coe_mul]
  refine congrArg (fun y : ℝ => (y : EReal)) ?_
  unfold outAt
  rw [mul_one_div]
  have a1 : ∀ s, aug (v s) ⟨c.val, by omega⟩ = v s c := fun s => dif_pos c.isLt
  have a2 : ∀ s, aug (v s) ⟨512, by decide⟩ = 1 := fun s => rfl
  simp only [a1, a2, mul_one]

/-- The state it stores. -/
theorem headC_at (h : Reads i x T ig xf q k v) (e : Fin 256) (c : Fin 640) :
    headC i x (ix3 0 e c) = ((wsum (relGate (fun s => logSig (xf s)) ig) (fun s => k s e * aug (v s) c) (T + 256) : ℝ) : EReal) := by
  unfold headC
  pointwise [k0_pay27, k0_pay15, k0_pay20]
  rw [h.hmp, top_at h, h.hct, ← EReal.coe_sub, Ideal.exp_coe, ← EReal.coe_mul, ← wsum_lanes_all (lane i)]
  refine Eq.trans (Ideal.add_congr ?_ ?_) (EReal.coe_add _ _).symm
  · congr 3; ring
  · refine sum_coe _ _ _ fun l => ?_
    rw [h.hk, rel_at h, aug_at h, ← EReal.coe_sub, Ideal.exp_coe, ← EReal.coe_mul, ← EReal.coe_mul]
    congr 1
    rw [add_sub_add_right_eq_sub]
    ring

/-- The maximum it stores. -/
theorem headM_at (h : Reads i x T ig xf q k v) (a : Fin 8) (c : Fin 128) :
    headM i x (ix3 0 a c)
      = ((run (relGate (fun s => logSig (xf s)) ig) (T + 256) + pre (fun s => logSig (xf s)) (T + 256) : ℝ) : EReal) := by
  have e := total_at h
  unfold headM
  pointwise [k0_pay28]
  rw [e, top_at h, ← EReal.coe_add]
  congr 1
  ring

end Cert.KerHead

end
-- ==== Proof.KerPoint.lean ====
/- What one grid point leaves: the eight heads' blocks over the point's loads, at a first point of a run with a zero state, at the others
   with the state the point before left. -/
module

public import proofs.«01_k».proof.Proof.KerHead

@[expose] public section

set_option maxRecDepth 16384

noncomputable section

namespace Cert.KerHead

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The eight heads' loads at point `t` over a carried state. -/
abbrev pt (c : Dev nD) (t : Fin cfg0.N) (c0 : Vec F S8x256x640 .f32) (c1 : Vec F S8x8x128 .f32) : Fin 8 → Loads F :=
  loads (grid0.coords t) (iblk m c 0 t) (iblk m c 1 t) (iblk m c 2 t) (iblk m c 3 t) (iblk m c 4 t) (iblk m c 5 t) (iblk m c 6 t) c0 c1

/-- The state the point before left. -/
abbrev prev (c : Dev nD) (t : Fin cfg0.N) := outsAt0 m c (t.val - 1) (Nat.lt_of_le_of_lt (Nat.sub_le _ _) t.isLt)

theorem emb_val {s : Shape} {off size : Fin s.rank → ℕ} (inb : ∀ a, off a + size a ≤ s.size a) (x : (Rect.unit off size inb).shape.Idx) (a : Fin s.rank) :
    (((Rect.unit off size inb).emb x a : Fin _) : ℕ) = off a + (x a : ℕ) := by
  simp [Rect.emb, Rect.unit]

theorem tileO (i : grid0.Coords) (L : Fin 8 → Loads F) (u : Fin 8) (p : FVec F S1x256x512 .bf16) (hp : p = headO i (L u)) (x : S1x256x512.Idx)
    (y : S1x256x4096.Idx) (h1 : (y 1 : ℕ) = x 1) (h2 : (y 2 : ℕ) = 512 * u.val + x 2) : p x = blockO i L y := by
  rw [hp]; exact blockO_at i L u x y h1 h2

theorem tileC (i : grid0.Coords) (L : Fin 8 → Loads F) (u : Fin 8) (p : FVec F S1x256x640 .f32) (hp : p = headC i (L u)) (x : S1x256x640.Idx)
    (y : S8x256x640.Idx) (h0 : (y 0 : ℕ) = u.val + x 0) (h1 : (y 1 : ℕ) = x 1) (h2 : (y 2 : ℕ) = x 2) : p x = blockC i L y := by
  rw [hp]; exact blockC_at i L u x y h0 h1 h2

theorem tileM (i : grid0.Coords) (L : Fin 8 → Loads F) (u : Fin 8) (p : FVec F S1x8x128 .f32) (hp : p = headM i (L u)) (x : S1x8x128.Idx)
    (y : S8x8x128.Idx) (h0 : (y 0 : ℕ) = u.val + x 0) (h1 : (y 1 : ℕ) = x 1) (h2 : (y 2 : ℕ) = x 2) : p x = blockM i L y := by
  rw [hp]; exact blockM_at i L u x y h0 h1 h2

theorem out_step (c : Dev nD) (t : Fin cfg0.N) (h : ¬ t.val % 16 = 0) :
    (outsAt0 m c t.val t.isLt).1 = blockO (grid0.coords t) (pt m c t (prev m c t).2.1 (prev m c t).2.2) := by
  rw [outsAt0_B m c t h]
  dsimp only
  frame_open
  simp (disch := decide) only [↓ View.readCov_skip, ↓ View.readCov_cons_toLoadRect, ↓ View.readCov_fill]
  frame_out
  try simp only [read_unread_whole]
  funext y
  canon_tiles x hx
  · exact tileO _ _ ⟨7, by decide⟩ _ (by sl_kernel_rfl) x y (by omega) (by omega)
  · exact tileO _ _ ⟨6, by decide⟩ _ (by sl_kernel_rfl) x y (by omega) (by omega)
  · exact tileO _ _ ⟨5, by decide⟩ _ (by sl_kernel_rfl) x y (by omega) (by omega)
  · exact tileO _ _ ⟨4, by decide⟩ _ (by sl_kernel_rfl) x y (by omega) (by omega)
  · exact tileO _ _ ⟨3, by decide⟩ _ (by sl_kernel_rfl) x y (by omega) (by omega)
  · exact tileO _ _ ⟨2, by decide⟩ _ (by sl_kernel_rfl) x y (by omega) (by omega)
  · exact tileO _ _ ⟨1, by decide⟩ _ (by sl_kernel_rfl) x y (by omega) (by omega)
  · exact tileO _ _ ⟨0, by decide⟩ _ (by sl_kernel_rfl) x y (by dsimp only; omega) (by dsimp only; omega)

theorem mat_step (c : Dev nD) (t : Fin cfg0.N) (h : ¬ t.val % 16 = 0) :
    (outsAt0 m c t.val t.isLt).2.1 = blockC (grid0.coords t) (pt m c t (prev m c t).2.1 (prev m c t).2.2) := by
  rw [outsAt0_B m c t h]
  dsimp only
  frame_open
  simp (disch := decide) only [↓ View.readCov_skip, ↓ View.readCov_cons_toLoadRect, ↓ View.readCov_fill]
  frame_out
  try simp only [read_unread_whole]
  funext y
  canon_tiles x hx
  · exact tileC _ _ ⟨7, by decide⟩ _ (by sl_kernel_rfl) x y (by omega) (by omega) (by omega)
  · exact tileC _ _ ⟨6, by decide⟩ _ (by sl_kernel_rfl) x y (by omega) (by omega) (by omega)
  · exact tileC _ _ ⟨5, by decide⟩ _ (by sl_kernel_rfl) x y (by omega) (by omega) (by omega)
  · exact tileC _ _ ⟨4, by decide⟩ _ (by sl_kernel_rfl) x y (by omega) (by omega) (by omega)
  · exact tileC _ _ ⟨3, by decide⟩ _ (by sl_kernel_rfl) x y (by omega) (by omega) (by omega)
  · exact tileC _ _ ⟨2, by decide⟩ _ (by sl_kernel_rfl) x y (by omega) (by omega) (by omega)
  · exact tileC _ _ ⟨1, by decide⟩ _ (by sl_kernel_rfl) x y (by omega) (by omega) (by omega)
  · exact tileC _ _ ⟨0, by decide⟩ _ (by sl_kernel_rfl) x y (by dsimp only; omega) (by dsimp only; omega) (by dsimp only; omega)

theorem max_step (c : Dev nD) (t : Fin cfg0.N) (h : ¬ t.val % 16 = 0) :
    (outsAt0 m c t.val t.isLt).2.2 = blockM (grid0.coords t) (pt m c t (prev m c t).2.1 (prev m c t).2.2) := by
  rw [outsAt0_B m c t h]
  dsimp only
  frame_open
  simp (disch := decide) only [↓ View.readCov_skip, ↓ View.readCov_cons_toLoadRect, ↓ View.readCov_fill]
  frame_out
  try simp only [read_unread_whole]
  funext y
  canon_tiles x hx
  · exact tileM _ _ ⟨7, by decide⟩ _ (by sl_kernel_rfl) x y (by omega) (by omega) (by omega)
  · exact tileM _ _ ⟨6, by decide⟩ _ (by sl_kernel_rfl) x y (by omega) (by omega) (by omega)
  · exact tileM _ _ ⟨5, by decide⟩ _ (by sl_kernel_rfl) x y (by omega) (by omega) (by omega)
  · exact tileM _ _ ⟨4, by decide⟩ _ (by sl_kernel_rfl) x y (by omega) (by omega) (by omega)
  · exact tileM _ _ ⟨3, by decide⟩ _ (by sl_kernel_rfl) x y (by omega) (by omega) (by omega)
  · exact tileM _ _ ⟨2, by decide⟩ _ (by sl_kernel_rfl) x y (by omega) (by omega) (by omega)
  · exact tileM _ _ ⟨1, by decide⟩ _ (by sl_kernel_rfl) x y (by omega) (by omega) (by omega)
  · exact tileM _ _ ⟨0, by decide⟩ _ (by sl_kernel_rfl) x y (by dsimp only; omega) (by dsimp only; omega) (by dsimp only; omega)

theorem out_first (c : Dev nD) (t : Fin cfg0.N) (h : t.val % 16 = 0) :
    (outsAt0 m c t.val t.isLt).1 = blockO (grid0.coords t) (pt m c t k0_pay3 k0_pay4) := by
  rw [outsAt0_A m c t h]
  dsimp only
  frame_open
  simp (disch := decide) only [↓ View.readCov_skip, ↓ View.readCov_cons_toLoadRect, ↓ View.readCov_fill]
  frame_out
  try simp only [read_unread_whole]
  funext y
  canon_tiles x hx
  · exact tileO _ _ ⟨7, by decide⟩ _ (by sl_kernel_rfl) x y (by omega) (by omega)
  · exact tileO _ _ ⟨6, by decide⟩ _ (by sl_kernel_rfl) x y (by omega) (by omega)
  · exact tileO _ _ ⟨5, by decide⟩ _ (by sl_kernel_rfl) x y (by omega) (by omega)
  · exact tileO _ _ ⟨4, by decide⟩ _ (by sl_kernel_rfl) x y (by omega) (by omega)
  · exact tileO _ _ ⟨3, by decide⟩ _ (by sl_kernel_rfl) x y (by omega) (by omega)
  · exact tileO _ _ ⟨2, by decide⟩ _ (by sl_kernel_rfl) x y (by omega) (by omega)
  · exact tileO _ _ ⟨1, by decide⟩ _ (by sl_kernel_rfl) x y (by omega) (by omega)
  · exact tileO _ _ ⟨0, by decide⟩ _ (by sl_kernel_rfl) x y (by dsimp only; omega) (by dsimp only; omega)

theorem mat_first (c : Dev nD) (t : Fin cfg0.N) (h : t.val % 16 = 0) :
    (outsAt0 m c t.val t.isLt).2.1 = blockC (grid0.coords t) (pt m c t k0_pay3 k0_pay4) := by
  rw [outsAt0_A m c t h]
  dsimp only
  frame_open
  simp (disch := decide) only [↓ View.readCov_skip, ↓ View.readCov_cons_toLoadRect, ↓ View.readCov_fill]
  frame_out
  try simp only [read_unread_whole]
  funext y
  refine View.canon_append_of_piecesOf _ [_] [_, _, _, _, _, _, _, _] ⟨fun x => ?_, fun x => ?_, fun x => ?_, fun x => ?_, fun x => ?_, fun x => ?_, fun x => ?_, fun x => ?_, trivial⟩ y ?_
  · exact tileC _ _ ⟨7, by decide⟩ _ (by sl_kernel_rfl) x _ (emb_val inb_S8x256x640_S1x256x640_7_0_0 x 0) ((emb_val inb_S8x256x640_S1x256x640_7_0_0 x 1).trans (Nat.zero_add _)) ((emb_val inb_S8x256x640_S1x256x640_7_0_0 x 2).trans (Nat.zero_add _))
  · exact tileC _ _ ⟨6, by decide⟩ _ (by sl_kernel_rfl) x _ (emb_val inb_S8x256x640_S1x256x640_6_0_0 x 0) ((emb_val inb_S8x256x640_S1x256x640_6_0_0 x 1).trans (Nat.zero_add _)) ((emb_val inb_S8x256x640_S1x256x640_6_0_0 x 2).trans (Nat.zero_add _))
  · exact tileC _ _ ⟨5, by decide⟩ _ (by sl_kernel_rfl) x _ (emb_val inb_S8x256x640_S1x256x640_5_0_0 x 0) ((emb_val inb_S8x256x640_S1x256x640_5_0_0 x 1).trans (Nat.zero_add _)) ((emb_val inb_S8x256x640_S1x256x640_5_0_0 x 2).trans (Nat.zero_add _))
  · exact tileC _ _ ⟨4, by decide⟩ _ (by sl_kernel_rfl) x _ (emb_val inb_S8x256x640_S1x256x640_4_0_0 x 0) ((emb_val inb_S8x256x640_S1x256x640_4_0_0 x 1).trans (Nat.zero_add _)) ((emb_val inb_S8x256x640_S1x256x640_4_0_0 x 2).trans (Nat.zero_add _))
  · exact tileC _ _ ⟨3, by decide⟩ _ (by sl_kernel_rfl) x _ (emb_val inb_S8x256x640_S1x256x640_3_0_0 x 0) ((emb_val inb_S8x256x640_S1x256x640_3_0_0 x 1).trans (Nat.zero_add _)) ((emb_val inb_S8x256x640_S1x256x640_3_0_0 x 2).trans (Nat.zero_add _))
  · exact tileC _ _ ⟨2, by decide⟩ _ (by sl_kernel_rfl) x _ (emb_val inb_S8x256x640_S1x256x640_2_0_0 x 0) ((emb_val inb_S8x256x640_S1x256x640_2_0_0 x 1).trans (Nat.zero_add _)) ((emb_val inb_S8x256x640_S1x256x640_2_0_0 x 2).trans (Nat.zero_add _))
  · exact tileC _ _ ⟨1, by decide⟩ _ (by sl_kernel_rfl) x _ (emb_val inb_S8x256x640_S1x256x640_1_0_0 x 0) ((emb_val inb_S8x256x640_S1x256x640_1_0_0 x 1).trans (Nat.zero_add _)) ((emb_val inb_S8x256x640_S1x256x640_1_0_0 x 2).trans (Nat.zero_add _))
  · exact tileC _ _ ⟨0, by decide⟩ _ (by sl_kernel_rfl) x _ (emb_val inb_S8x256x640_S1x256x640_0_0_0 x 0) ((emb_val inb_S8x256x640_S1x256x640_0_0_0 x 1).trans (Nat.zero_add _)) ((emb_val inb_S8x256x640_S1x256x640_0_0_0 x 2).trans (Nat.zero_add _))
  · exact View.cover_of_tiledL (s := S8x256x640) _ S1x256x640.size (by sl_kernel_rfl) y

theorem max_first (c : Dev nD) (t : Fin cfg0.N) (h : t.val % 16 = 0) :
    (outsAt0 m c t.val t.isLt).2.2 = blockM (grid0.coords t) (pt m c t k0_pay3 k0_pay4) := by
  rw [outsAt0_A m c t h]
  dsimp only
  frame_open
  simp (disch := decide) only [↓ View.readCov_skip, ↓ View.readCov_cons_toLoadRect, ↓ View.readCov_fill]
  frame_out
  try simp only [read_unread_whole]
  funext y
  refine View.canon_append_of_piecesOf _ [_] [_, _, _, _, _, _, _, _] ⟨fun x => ?_, fun x => ?_, fun x => ?_, fun x => ?_, fun x => ?_, fun x => ?_, fun x => ?_, fun x => ?_, trivial⟩ y ?_
  · exact tileM _ _ ⟨7, by decide⟩ _ (by sl_kernel_rfl) x _ (emb_val inb_S8x8x128_S1x8x128_7_0_0 x 0) ((emb_val inb_S8x8x128_S1x8x128_7_0_0 x 1).trans (Nat.zero_add _)) ((emb_val inb_S8x8x128_S1x8x128_7_0_0 x 2).trans (Nat.zero_add _))
  · exact tileM _ _ ⟨6, by decide⟩ _ (by sl_kernel_rfl) x _ (emb_val inb_S8x8x128_S1x8x128_6_0_0 x 0) ((emb_val inb_S8x8x128_S1x8x128_6_0_0 x 1).trans (Nat.zero_add _)) ((emb_val inb_S8x8x128_S1x8x128_6_0_0 x 2).trans (Nat.zero_add _))
  · exact tileM _ _ ⟨5, by decide⟩ _ (by sl_kernel_rfl) x _ (emb_val inb_S8x8x128_S1x8x128_5_0_0 x 0) ((emb_val inb_S8x8x128_S1x8x128_5_0_0 x 1).trans (Nat.zero_add _)) ((emb_val inb_S8x8x128_S1x8x128_5_0_0 x 2).trans (Nat.zero_add _))
  · exact tileM _ _ ⟨4, by decide⟩ _ (by sl_kernel_rfl) x _ (emb_val inb_S8x8x128_S1x8x128_4_0_0 x 0) ((emb_val inb_S8x8x128_S1x8x128_4_0_0 x 1).trans (Nat.zero_add _)) ((emb_val inb_S8x8x128_S1x8x128_4_0_0 x 2).trans (Nat.zero_add _))
  · exact tileM _ _ ⟨3, by decide⟩ _ (by sl_kernel_rfl) x _ (emb_val inb_S8x8x128_S1x8x128_3_0_0 x 0) ((emb_val inb_S8x8x128_S1x8x128_3_0_0 x 1).trans (Nat.zero_add _)) ((emb_val inb_S8x8x128_S1x8x128_3_0_0 x 2).trans (Nat.zero_add _))
  · exact tileM _ _ ⟨2, by decide⟩ _ (by sl_kernel_rfl) x _ (emb_val inb_S8x8x128_S1x8x128_2_0_0 x 0) ((emb_val inb_S8x8x128_S1x8x128_2_0_0 x 1).trans (Nat.zero_add _)) ((emb_val inb_S8x8x128_S1x8x128_2_0_0 x 2).trans (Nat.zero_add _))
  · exact tileM _ _ ⟨1, by decide⟩ _ (by sl_kernel_rfl) x _ (emb_val inb_S8x8x128_S1x8x128_1_0_0 x 0) ((emb_val inb_S8x8x128_S1x8x128_1_0_0 x 1).trans (Nat.zero_add _)) ((emb_val inb_S8x8x128_S1x8x128_1_0_0 x 2).trans (Nat.zero_add _))
  · exact tileM _ _ ⟨0, by decide⟩ _ (by sl_kernel_rfl) x _ (emb_val inb_S8x8x128_S1x8x128_0_0_0 x 0) ((emb_val inb_S8x8x128_S1x8x128_0_0_0 x 1).trans (Nat.zero_add _)) ((emb_val inb_S8x8x128_S1x8x128_0_0_0 x 2).trans (Nat.zero_add _))
  · exact View.cover_of_tiledL (s := S8x8x128) _ S1x8x128.size (by sl_kernel_rfl) y

end Cert.KerHead

end
-- ==== Proof.Inputs.lean ====
/- The real inputs of the two programs, the sequences of gates, queries, keys and values that a direction reads of them, and the results in
   closed form. -/
module

public import proofs.«01_k».proof.Proof.Reals
public import Idealize.ShloMosaic.Lib.ValueIdx

@[expose] public section

noncomputable section

namespace Cert.Chunk

open Idealize.ShloMosaic

/-- The inputs as real numbers, by row and column. -/
structure Inputs where
  p : ℕ → ℕ → ℝ
  g : ℕ → ℕ → ℝ
  bi : ℕ → ℝ
  bf : ℕ → ℝ

/-- The arrays hold these numbers, where they are read. -/
structure Holds (I : Inputs) (X : FVec Ideal ⟨2, ![16384, 24576]⟩ .bf16) (G : FVec Ideal ⟨2, ![128, 16384]⟩ .f32)
    (A B : FVec Ideal ⟨1, ![16]⟩ .f32) : Prop where
  hp : ∀ (r : Fin 16384) (c : Fin 24576), c.val < 8192 → X (ix2 r c) = ((I.p r c : ℝ) : EReal)
  hg : ∀ (a : Fin 128) (r : Fin 16384), a.val < 32 → G (ix2 a r) = ((I.g a r : ℝ) : EReal)
  hi : ∀ j : Fin 16, A (ix1 j) = ((I.bi j : ℝ) : EReal)
  hf : ∀ j : Fin 16, B (ix1 j) = ((I.bf j : ℝ) : EReal)

/-- The row a direction reads for a batch element at a time. -/
def row (d b t : ℕ) : ℕ := b * 4096 + (if d = 0 then t else 4095 - t)

variable (I : Inputs) (d b h : ℕ)

/-- The input gates of a head, its forget gates before the logistic function, and its queries, keys and values, by time. -/
def igs (s : ℕ) : ℝ := I.g (8 * d + h) (row d b s) + I.bi (8 * d + h)
def fgs (s : ℕ) : ℝ := I.g (16 + 8 * d + h) (row d b s) + I.bf (8 * d + h)
def qs (s : ℕ) (e : Fin 256) : ℝ := I.p (row d b s) (256 * h + e)
def ks (s : ℕ) (e : Fin 256) : ℝ := I.p (row d b s) (2048 + 256 * h + e)
def vs (s : ℕ) (c : Fin 512) : ℝ := I.p (row d b s) (4096 + 512 * h + c)

/-- The log forget gates. -/
abbrev lfs : ℕ → ℝ := fun s => logSig (fgs I d b h s)

/-- The result of a head at a time, in a column. -/
def outs (t : ℕ) (c : Fin 512) : ℝ :=
  outAt (lfs I d b h) (igs I d b h) (fun s => (∑ e, qs I d b h t e * ks I d b h s e) * (1 / 16)) (fun s => vs I d b h s c) t

/-- The array of results: direction, row, column. -/
def result : FVec Ideal ⟨3, ![2, 16384, 4096]⟩ .bf16 := fun y =>
  ((outs I (y 0).val ((y 1).val / 4096) ((y 2).val / 512) (if (y 0).val = 0 then (y 1).val % 4096 else 4095 - (y 1).val % 4096)
    ⟨(y 2).val % 512, Nat.mod_lt _ (by decide)⟩ : ℝ) : EReal)

end Cert.Chunk

end
-- ==== Proof.KerReads.lean ====
/- What a head reads at a grid point: the blocks of the point are the rows of its chunk, in the order of its direction. -/
module

public import proofs.«01_k».proof.Proof.KerPure
public import proofs.«01_k».proof.Proof.KerPoint
public import proofs.«01_k».proof.Proof.Inputs

@[expose] public section

set_option maxRecDepth 16384

noncomputable section

namespace Cert.KerHead

open Idealize.ShloMosaic Idealize.ShloMosaic.TcCoe Idealize.SL.Sem Cert.KernelIdeal Cert.KernelIdeal.Gen Cert.Chunk

variable (m : (ℓ : Loc nD τ sig) → Buf (Elt Ideal) ℓ)

theorem coords_val : ∀ t : Fin cfg0.N, (grid0.coords t 0).val = t.val / 64 ∧ (grid0.coords t 1).val = t.val / 16 % 4
    ∧ (grid0.coords t 2).val = 0 ∧ (grid0.coords t 3).val = t.val % 16 :=
  (by decide +kernel : ∀ t : Fin grid0.N, _)

/-- The chunk of rows a point reads, of the sixty-four. -/
def chunkOf (t : ℕ) : ℕ := t / 16 % 4 * 16 + (if t / 64 = 0 then t % 16 else 15 - t % 16)

theorem idx_val : ∀ t : Fin cfg0.N, win0_2.index t = ![chunkOf t.val, 0] ∧ win0_3.index t = ![chunkOf t.val, 1] ∧ win0_4.index t = ![chunkOf t.val, 1]
    ∧ win0_5.index t = ![t.val / 64, chunkOf t.val] ∧ win0_6.index t = ![2 + t.val / 64, chunkOf t.val]
    ∧ win0_7.index t = ![t.val / 64, chunkOf t.val, 0] ∧ win0_0.index t = ![0] ∧ win0_1.index t = ![0] :=
  (by decide +kernel : ∀ t : Fin grid0.N, _)

/-- A lane's row. -/
theorem row_lane (t : Fin cfg0.N) (l : Fin 256) :
    chunkOf t.val * 256 + l.val = row (t.val / 64) (t.val / 16 % 4) (256 * (t.val % 16) + (ord (t.val / 64) 256 l : ℕ)) := by
  have ht : t.val < 128 := t.isLt
  have hl := l.isLt
  unfold chunkOf row
  obtain h | h : t.val / 64 = 0 ∨ t.val / 64 = 1 := by omega
  · simp only [h, ord_zero, if_true]; omega
  · simp only [h, ord_one, Nat.one_ne_zero, if_false]; omega

theorem chunk_lt (t : Fin cfg0.N) : chunkOf t.val < 64 := by
  have ht : t.val < 128 := t.isLt
  unfold chunkOf; split <;> omega

variable (c : Dev nD) (t : Fin cfg0.N) (c0 : Vec Ideal S8x256x640 .f32) (c1 : Vec Ideal S8x8x128 .f32) (u : Fin 8)

theorem q_read (l e : Fin 256) : (pt m c t c0 c1 u).q (ix2 l e)
    = m (c.tc.loc main_arg0) (ix2 ⟨chunkOf t.val * 256 + l.val, by have := chunk_lt t; omega⟩ ⟨256 * u.val + e.val, by omega⟩) := by
  unfold pt loads
  pointwise
  blk_ext [iblk, V, idx_val t]

theorem k_read (l e : Fin 256) : (pt m c t c0 c1 u).k (ix2 l e)
    = m (c.tc.loc main_arg0) (ix2 ⟨chunkOf t.val * 256 + l.val, by have := chunk_lt t; omega⟩ ⟨2048 + 256 * u.val + e.val, by omega⟩) := by
  unfold pt loads
  pointwise
  blk_ext [iblk, V, idx_val t]

theorem v_read (l : Fin 256) (e : Fin 512) : (pt m c t c0 c1 u).v (ix2 l e)
    = m (c.tc.loc main_arg0) (ix2 ⟨chunkOf t.val * 256 + l.val, by have := chunk_lt t; omega⟩ ⟨4096 + 512 * u.val + e.val, by omega⟩) := by
  unfold pt loads
  pointwise
  blk_ext [iblk, V, idx_val t]

theorem gi_read (l : Fin 256) : (pt m c t c0 c1 u).gi (ix2 0 l)
    = m (c.tc.loc main_arg1) (ix2 ⟨8 * (t.val / 64) + u.val, by have ht : t.val < 128 := t.isLt; omega⟩ ⟨chunkOf t.val * 256 + l.val, by have := chunk_lt t; omega⟩) := by
  unfold pt loads
  pointwise
  have := coords_val t
  blk_ext [iblk, V, idx_val t, k0_off1_eq]

theorem gf_read (l : Fin 256) : (pt m c t c0 c1 u).gf (ix2 0 l)
    = m (c.tc.loc main_arg1) (ix2 ⟨16 + 8 * (t.val / 64) + u.val, by have ht : t.val < 128 := t.isLt; omega⟩ ⟨chunkOf t.val * 256 + l.val, by have := chunk_lt t; omega⟩) := by
  unfold pt loads
  pointwise
  have := coords_val t
  blk_ext [iblk, V, idx_val t, k0_off1_eq]

theorem bi_read : (pt m c t c0 c1 u).bi
    = m (c.tc.loc main_arg2) (ix1 ⟨8 * (t.val / 64) + u.val, by have ht : t.val < 128 := t.isLt; omega⟩) := by
  unfold pt loads
  pointwise
  have := coords_val t
  blk_ext [iblk, V, idx_val t, k0_off2_eq]

theorem bf_read : (pt m c t c0 c1 u).bf
    = m (c.tc.loc main_arg3) (ix1 ⟨8 * (t.val / 64) + u.val, by have ht : t.val < 128 := t.isLt; omega⟩) := by
  unfold pt loads
  pointwise
  have := coords_val t
  blk_ext [iblk, V, idx_val t, k0_off2_eq]

theorem ct_read (e : Fin 256) (a : Fin 640) : (pt m c t c0 c1 u).ct (ix3 0 e a) = c0 (ix3 u e a) := by
  unfold pt loads
  pointwise
  blk_ext

theorem mp_read : (pt m c t c0 c1 u).mp (ix3 0 0 0) = c1 (ix3 u 0 0) := by
  unfold pt loads
  pointwise
  blk_ext

end Cert.KerHead

end
-- ==== Proof.KerRun.lean ====
/- The kernel's run over the real numbers: the state carried from point to point is the recurrence's, and the array of results it leaves is the
   recurrence's results. -/
module

public import proofs.«01_k».proof.Proof.KerReads

@[expose] public section

set_option maxRecDepth 16384

noncomputable section

namespace Cert.KerHead

open Idealize.ShloMosaic Idealize.ShloMosaic.TcCoe Idealize.SL.Sem Cert.KernelIdeal Cert.KernelIdeal.Gen Cert.Chunk

variable (m : (ℓ : Loc nD τ sig) → Buf (Elt Ideal) ℓ) (c : Dev nD) (I : Inputs)

/-- The two carried buffers hold the state of every head after the times before `T`. -/
structure StateAt (d b T : ℕ) (c0 : Vec Ideal S8x256x640 .f32) (c1 : Vec Ideal S8x8x128 .f32) : Prop where
  mat : ∀ (u : Fin 8) (e : Fin 256) (a : Fin 640), c0 (ix3 u e a)
    = ((wsum (relGate (lfs I d b u) (igs I d b u)) (fun s => ks I d b u s e * aug (vs I d b u s) a) T : ℝ) : EReal)
  max : ∀ (u : Fin 8) (a : Fin 8) (l : Fin 128), c1 (ix3 u a l)
    = ((run (relGate (lfs I d b u) (igs I d b u)) T + pre (lfs I d b u) T : ℝ) : EReal)

/-- The device's arguments hold the inputs. -/
abbrev Args : Prop := Holds I (m (c.tc.loc main_arg0)) (m (c.tc.loc main_arg1)) (m (c.tc.loc main_arg2)) (m (c.tc.loc main_arg3))

variable {m c I}

theorem lane_eq (t : Fin cfg0.N) : lane (grid0.coords t) = ord (t.val / 64) 256 := by
  unfold lane; rw [(coords_val t).1]

theorem reads (hI : Args m c I) (t : Fin cfg0.N) (c0 : Vec Ideal S8x256x640 .f32) (c1 : Vec Ideal S8x8x128 .f32)
    (hs : StateAt I (t.val / 64) (t.val / 16 % 4) (256 * (t.val % 16)) c0 c1) (u : Fin 8) :
    Reads (grid0.coords t) (pt m c t c0 c1 u) (256 * (t.val % 16)) (igs I (t.val / 64) (t.val / 16 % 4) u) (fgs I (t.val / 64) (t.val / 16 % 4) u)
      (qs I (t.val / 64) (t.val / 16 % 4) u) (ks I (t.val / 64) (t.val / 16 % 4) u) (vs I (t.val / 64) (t.val / 16 % 4) u) where
  hgi l := by
    pointwise [k0_pay9]
    rw [gi_read, bi_read, hI.hg _ _ (by have ht : t.val < 128 := t.isLt; dsimp only; omega), hI.hi, ← EReal.coe_add, lane_eq]
    unfold igs
    rw [← row_lane]
  hgf l := by
    pointwise [k0_pay9]
    rw [gf_read, bf_read, hI.hg _ _ (by have ht : t.val < 128 := t.isLt; dsimp only; omega), hI.hf, ← EReal.coe_add, lane_eq]
    unfold fgs
    rw [← row_lane]
  hq l e := by
    rw [q_read, hI.hp _ _ (by dsimp only; omega), lane_eq]
    unfold qs
    rw [← row_lane]
  hk l e := by
    rw [k_read, hI.hp _ _ (by dsimp only; omega), lane_eq]
    unfold ks
    rw [← row_lane]
  hv l e := by
    rw [v_read, hI.hp _ _ (by dsimp only; omega), lane_eq]
    unfold vs
    rw [← row_lane]
  hct e a := by rw [ct_read]; exact hs.mat u e a
  hmp := by rw [mp_read]; exact hs.max u 0 0

/-- A point takes the state to the next chunk's. -/
theorem state_next (hI : Args m c I) (t : Fin cfg0.N) (c0 : Vec Ideal S8x256x640 .f32) (c1 : Vec Ideal S8x8x128 .f32)
    (hs : StateAt I (t.val / 64) (t.val / 16 % 4) (256 * (t.val % 16)) c0 c1) :
    StateAt I (t.val / 64) (t.val / 16 % 4) (256 * (t.val % 16) + 256) (blockC (grid0.coords t) (pt m c t c0 c1))
      (blockM (grid0.coords t) (pt m c t c0 c1)) where
  mat u e a := headC_at (reads hI t c0 c1 hs u) e a
  max u a l := headM_at (reads hI t c0 c1 hs u) a l

/-- Before the first time the state is zero. -/
theorem state_zero (d b : ℕ) : StateAt I d b 0 (k0_pay3 (F := Ideal)) (k0_pay4 (F := Ideal)) where
  mat u e a := by
    pointwise [k0_pay3]
    rw [wsum_zero]; rfl
  max u a l := by
    pointwise [k0_pay4]
    rw [run_zero, pre_zero, add_zero]; rfl

/-- After a point the state is that after its chunk. -/
theorem state_after (hI : Args m c I) : ∀ (n : ℕ) (hn : n < cfg0.N),
    StateAt I (n / 64) (n / 16 % 4) (256 * (n % 16) + 256) (outsAt0 m c n hn).2.1 (outsAt0 m c n hn).2.2 := by
  intro n
  induction n with
  | zero =>
    intro hn
    have h1 := mat_first m c ⟨0, hn⟩ rfl
    have h2 := max_first m c ⟨0, hn⟩ rfl
    dsimp only at h1 h2
    rw [h1, h2]
    exact state_next hI ⟨0, hn⟩ _ _ (state_zero _ _)
  | succ n ih =>
    intro hn
    by_cases h : (n + 1) % 16 = 0
    · have h1 := mat_first m c ⟨n + 1, hn⟩ h
      have h2 := max_first m c ⟨n + 1, hn⟩ h
      dsimp only at h1 h2
      rw [h1, h2]
      refine state_next hI ⟨n + 1, hn⟩ _ _ ?_
      dsimp only
      rw [h]
      exact state_zero _ _
    · have h1 := mat_step m c ⟨n + 1, hn⟩ h
      have h2 := max_step m c ⟨n + 1, hn⟩ h
      dsimp only at h1 h2
      rw [h1, h2]
      refine state_next hI ⟨n + 1, hn⟩ _ _ ?_
      have := ih (by omega)
      dsimp only
      rw [show (n + 1) / 64 = n / 64 by omega, show (n + 1) / 16 % 4 = n / 16 % 4 by omega, show 256 * ((n + 1) % 16) = 256 * (n % 16) + 256 by omega]
      exact this

/-- What a point stores of its results. -/
theorem out_at (hI : Args m c I) (t : Fin cfg0.N) (l : Fin 256) (u : Fin 8) (a : Fin 512) :
    (outsAt0 m c t.val t.isLt).1 (ix3 0 l ⟨512 * u.val + a.val, by omega⟩)
      = ((outs I (t.val / 64) (t.val / 16 % 4) u (256 * (t.val % 16) + (ord (t.val / 64) 256 l : ℕ)) a : ℝ) : EReal) := by
  have key : ∀ (c0 : Vec Ideal S8x256x640 .f32) (c1 : Vec Ideal S8x8x128 .f32),
      StateAt I (t.val / 64) (t.val / 16 % 4) (256 * (t.val % 16)) c0 c1 →
      blockO (grid0.coords t) (pt m c t c0 c1) (ix3 0 l ⟨512 * u.val + a.val, by omega⟩)
        = ((outs I (t.val / 64) (t.val / 16 % 4) u (256 * (t.val % 16) + (ord (t.val / 64) 256 l : ℕ)) a : ℝ) : EReal) := by
    intro c0 c1 hs
    rw [← blockO_at (grid0.coords t) (pt m c t c0 c1) u (ix3 0 l a) _ rfl rfl, headO_at (reads hI t c0 c1 hs u) l a, lane_eq]
    rfl
  by_cases h : t.val % 16 = 0
  · rw [out_first m c t h]
    exact key _ _ (by rw [h]; exact state_zero _ _)
  · rw [out_step m c t h]
    refine key _ _ ?_
    have := state_after hI (t.val - 1) (by have := t.isLt; omega)
    rw [show t.val / 64 = (t.val - 1) / 64 by omega, show t.val / 16 % 4 = (t.val - 1) / 16 % 4 by omega,
      show 256 * (t.val % 16) = 256 * ((t.val - 1) % 16) + 256 by omega]
    exact this

/-- A stored block, at an index, is the array of results at the index it goes to. -/
theorem block_at (hI : Args m c I) (t : Fin cfg0.N) (y1 : Fin 256) (y2 : Fin 4096) (z0 : Fin 2) (z1 : Fin 16384) (z2 : Fin 4096)
    (h0 : z0.val = t.val / 64) (h1 : z1.val = chunkOf t.val * 256 + y1.val) (h2 : z2.val = y2.val) :
    (outsAt0 m c t.val t.isLt).1 (ix3 0 y1 y2) = result I (ix3 z0 z1 z2) := by
  have ht : t.val < 128 := t.isLt
  have e := out_at hI t y1 ⟨y2.val / 512, by omega⟩ ⟨y2.val % 512, by omega⟩
  dsimp only at e
  have hy : (ix3 0 y1 ⟨512 * (y2.val / 512) + y2.val % 512, by omega⟩ : S1x256x4096.Idx) = ix3 0 y1 y2 :=
    (ix3_inj ..).2 ⟨rfl, rfl, Fin.ext (by dsimp only; omega)⟩
  rw [hy] at e
  rw [e]
  refine congrArg (fun r : ℝ => (r : EReal)) ?_
  show _ = outs I z0.val (z1.val / 4096) (z2.val / 512) (if z0.val = 0 then z1.val % 4096 else 4095 - z1.val % 4096) ⟨z2.val % 512, _⟩
  have hb : t.val / 16 % 4 = z1.val / 4096 := by
    rw [h1]
    unfold chunkOf
    split <;> omega
  have hr : (256 * (t.val % 16) + (ord (t.val / 64) 256 y1 : ℕ)) = if z0.val = 0 then z1.val % 4096 else 4095 - z1.val % 4096 := by
    rw [h1]
    simp only [h0]
    unfold chunkOf
    obtain h | h : t.val / 64 = 0 ∨ t.val / 64 = 1 := by omega
    · simp only [h, ord_zero, if_true]; omega
    · simp only [h, ord_one, Nat.one_ne_zero, if_false]; omega
  rw [hr, hb]
  simp only [h0, h2]

/-- The array the kernel leaves. -/
theorem array (hI : Args m c I) : (dats m 0 c).arrAt 7 cfg0.N = result I := by
  refine (dats m 0 c).arrAt_eq_of_covers 7 _ (by decide +kernel) fun t hf y => ?_
  have g0 : (((cfg0.win 7).blk t).view.emb y 0 : ℕ) = t.val / 64 := by blk_simp [idx_val t]
  have g1 : (((cfg0.win 7).blk t).view.emb y 1 : ℕ) = chunkOf t.val * 256 + (y 1 : ℕ) := by blk_simp [idx_val t]
  have g2 : (((cfg0.win 7).blk t).view.emb y 2 : ℕ) = (y 2 : ℕ) := by blk_simp [idx_val t]
  rw [cast_eq, after0_7]
  generalize ((cfg0.win 7).blk t).view.emb y = z at g0 g1 g2 ⊢
  idx_vars y
  idx_vars z
  obtain rfl : y0 = 0 := Subsingleton.elim _ _
  exact block_at hI t y1 y2 z0 z1 z2 g0 g1 g2

end Cert.KerHead

end
-- ==== Proof.RefPure.lean ====
/- One trip of the reference's loop over the real numbers: what it reads at a chunk, and what it does to the state of one row and head. -/
module

public import proofs.«01_k».proof.Proof.Gen.ReferenceIdeal.Step
public import proofs.«01_k».proof.Proof.Reals
public import Idealize.ShloMosaic.Lib.Pointwise

@[expose] public section

set_option maxRecDepth 16384

noncomputable section

namespace Cert.ReferenceIdeal.Step

open Idealize.ShloMosaic Idealize.ShloMosaic.TcCoe Idealize.SL.Sem Cert.ReferenceIdeal Cert.Chunk

/-! The windows a trip reads and writes start at its number on the first axis and at zero on the others. -/

theorem word_int (j : ℕ) (hj : j < 64) : (BitVec.ofNat 32 j).toInt = j := by
  rw [BitVec.toInt_ofNat']
  simp only [Int.bmod]
  omega

theorem start_wide (j : ℕ) (hj : j < 64) (h) :
    (∀ a : Fin 5, Host.clampedStart S64x8x8x64x512 S1x8x8x64x512 h
      (fun k => ((![(constantI S_ 32 (BitVec.ofNat 32 j)), constantI S_ 32 0#32, constantI S_ 32 0#32, constantI S_ 32 0#32,
        constantI S_ 32 0#32] : Fin 5 → (⟨S_, .i32⟩ : BufTy).Contents (Elt Ideal)) k (Shape.Idx.first Gen.h_S_)).toInt) a = (![j, 0, 0, 0, 0] : Fin 5 → ℕ) a) := by
  intro a
  fin_cases a
  · exact Host.clampedStart_of_le _ _ _ j (word_int j hj) (by show j + 1 ≤ 64; omega)
  all_goals exact Host.clampedStart_of_le _ _ _ 0 rfl (Nat.le_of_ble_eq_true rfl)

theorem start_narrow (j : ℕ) (hj : j < 64) (h) :
    (∀ a : Fin 5, Host.clampedStart S64x8x8x64x256 S1x8x8x64x256 h
      (fun k => ((![(constantI S_ 32 (BitVec.ofNat 32 j)), constantI S_ 32 0#32, constantI S_ 32 0#32, constantI S_ 32 0#32,
        constantI S_ 32 0#32] : Fin 5 → (⟨S_, .i32⟩ : BufTy).Contents (Elt Ideal)) k (Shape.Idx.first Gen.h_S_)).toInt) a = (![j, 0, 0, 0, 0] : Fin 5 → ℕ) a) := by
  intro a
  fin_cases a
  · exact Host.clampedStart_of_le _ _ _ j (word_int j hj) (by show j + 1 ≤ 64; omega)
  all_goals exact Host.clampedStart_of_le _ _ _ 0 rfl (Nat.le_of_ble_eq_true rfl)

theorem start_gate (j : ℕ) (hj : j < 64) (h) :
    (∀ a : Fin 4, Host.clampedStart S64x8x8x64 S1x8x8x64 h
      (fun k => ((![(constantI S_ 32 (BitVec.ofNat 32 j)), constantI S_ 32 0#32, constantI S_ 32 0#32, constantI S_ 32 0#32]
        : Fin 4 → (⟨S_, .i32⟩ : BufTy).Contents (Elt Ideal)) k (Shape.Idx.first Gen.h_S_)).toInt) a = (![j, 0, 0, 0] : Fin 4 → ℕ) a) := by
  intro a
  fin_cases a
  · exact Host.clampedStart_of_le _ _ _ j (word_int j hj) (by show j + 1 ≤ 64; omega)
  all_goals exact Host.clampedStart_of_le _ _ _ 0 rfl (Nat.le_of_ble_eq_true rfl)

theorem zero_add_of {a : ℕ} (n : ℕ) (h : a = 0) : a + n = n := by rw [h, Nat.zero_add]

variable (j : ℕ) (s : State Ideal) (D h : Fin 8)

theorem b5_at (hj : j < 64) (t : Fin 64) (e : Fin 256) : b5 j s (ix4 D h t e) = s.main_v72_0 (ix5 ⟨j, hj⟩ D h t e) := by
  pointwise [b5, b4, b0, b1, b2, b3]
  exact congrArg _ ((ix5_inj ..).2 ⟨Fin.ext (start_narrow j hj rfl 0), Fin.ext (zero_add_of _ (start_narrow j hj rfl 1)),
    Fin.ext (zero_add_of _ (start_narrow j hj rfl 2)), Fin.ext (zero_add_of _ (start_narrow j hj rfl 3)), Fin.ext (zero_add_of _ (start_narrow j hj rfl 4))⟩)

theorem b11_at (hj : j < 64) (t : Fin 64) (e : Fin 256) : b11 j s (ix4 D h t e) = s.main_v72_1 (ix5 ⟨j, hj⟩ D h t e) := by
  pointwise [b11, b10, b6, b7, b8, b9]
  exact congrArg _ ((ix5_inj ..).2 ⟨Fin.ext (start_narrow j hj rfl 0), Fin.ext (zero_add_of _ (start_narrow j hj rfl 1)),
    Fin.ext (zero_add_of _ (start_narrow j hj rfl 2)), Fin.ext (zero_add_of _ (start_narrow j hj rfl 3)), Fin.ext (zero_add_of _ (start_narrow j hj rfl 4))⟩)

theorem b17_at (hj : j < 64) (t : Fin 64) (c : Fin 512) : b17 j s (ix4 D h t c) = s.main_v72_2 (ix5 ⟨j, hj⟩ D h t c) := by
  pointwise [b17, b16, b12, b13, b14, b15]
  exact congrArg _ ((ix5_inj ..).2 ⟨Fin.ext (start_wide j hj rfl 0), Fin.ext (zero_add_of _ (start_wide j hj rfl 1)),
    Fin.ext (zero_add_of _ (start_wide j hj rfl 2)), Fin.ext (zero_add_of _ (start_wide j hj rfl 3)), Fin.ext (zero_add_of _ (start_wide j hj rfl 4))⟩)

theorem b22_at (hj : j < 64) (t : Fin 64) : b22 j s (ix3 D h t) = s.main_v72_3 (ix4 ⟨j, hj⟩ D h t) := by
  pointwise [b22, b21, b18, b19, b20]
  exact congrArg _ ((ix4_inj ..).2 ⟨Fin.ext (start_gate j hj rfl 0), Fin.ext (zero_add_of _ (start_gate j hj rfl 1)),
    Fin.ext (zero_add_of _ (start_gate j hj rfl 2)), Fin.ext (zero_add_of _ (start_gate j hj rfl 3))⟩)

theorem b27_at (hj : j < 64) (t : Fin 64) : b27 j s (ix3 D h t) = s.main_v72_4 (ix4 ⟨j, hj⟩ D h t) := by
  pointwise [b27, b26, b23, b24, b25]
  exact congrArg _ ((ix4_inj ..).2 ⟨Fin.ext (start_gate j hj rfl 0), Fin.ext (zero_add_of _ (start_gate j hj rfl 1)),
    Fin.ext (zero_add_of _ (start_gate j hj rfl 2)), Fin.ext (zero_add_of _ (start_gate j hj rfl 3))⟩)

/-- The results a trip stores go to its own chunk. -/
theorem b111_at (hj : j < 64) (n : Fin 64) (t : Fin 64) (c : Fin 512) :
    b111 j s (ix5 n D h t c) = if n.val = j then b75 j s (ix4 D h t c) else s.main_v72_10 (ix5 n D h t c) := by
  have hn := n.isLt
  pointwise [b111, b106, b107, b108, b109, b110]
  simp only [start_wide j hj]
  by_cases hh : n.val = j
  · rw [if_pos hh, dif_pos]
    · simp
    · simp; omega
  · rw [if_neg hh, dif_neg]
    simp; omega

/-! The prefix sums of a chunk. -/

/-- A sum of the window that ends at `t`, of sixty-four places of which those before the first are empty. -/
theorem sum_window {M : Type} [AddCommMonoid M] (F : ℕ → M) (t : ℕ) (ht : t < 64) :
    (∑ n ∈ Finset.range 64, if 63 ≤ t + n then F (t + n - 63) else 0) = ∑ n ∈ Finset.range (t + 1), F n := by
  rw [← Finset.sum_filter]
  refine Finset.sum_nbij' (fun n => t + n - 63) (fun n => n + 63 - t) ?_ ?_ ?_ ?_ ?_ <;>
    simp only [Finset.mem_filter, Finset.mem_range] <;> intros <;> first | omega | trivial

theorem fold_add {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

theorem place : ∀ n : Fin (⟨3, ![1, 1, 64]⟩ : Shape).numel, ((⟨3, ![1, 1, 64]⟩ : Shape).rowMajor.symm n 0).val = 0
    ∧ ((⟨3, ![1, 1, 64]⟩ : Shape).rowMajor.symm n 1).val = 0 ∧ ((⟨3, ![1, 1, 64]⟩ : Shape).rowMajor.symm n 2).val = n.val := by
  decide +kernel

theorem cumsum_at (x : FVec Ideal S8x8x64 .f32) (i : FVec Ideal S_ .f32) (hi : i ix0 = 0) (F : ℕ → EReal) (hx : ∀ l : Fin 64, x (ix3 D h l) = F l) (t : Fin 64) :
    Host.reduceWindowAdd ![1, 1, 64] ![1, 1, 1] ![0, 0, 63] ![0, 0, 0] x i
      Gen.reduceWindows_S8x8x64_S8x8x64_w1s1p0_0_w1s1p0_0_w64s1p63_0 Gen.h_S_ (ix3 D h t) = ∑ n ∈ Finset.range (t.val + 1), F n := by
  have ht := t.isLt
  have hi' : i (Shape.Idx.first Gen.h_S_) = 0 := (congrArg i (funext fun a => a.elim0)).trans hi
  show Host.reduceWindow (α := EReal) (s := S8x8x64) (t := S8x8x64) (u := ⟨0, ![]⟩) (· + ·) ![1, 1, 64] ![1, 1, 1] ![0, 0, 63] ![0, 0, 0] x
    (fun _ => i (Shape.Idx.first Gen.h_S_)) Gen.reduceWindows_S8x8x64_S8x8x64_w1s1p0_0_w1s1p0_0_w64s1p63_0 (by decide) (ix3 D h t) = _
  unfold Host.reduceWindow
  rw [hi']
  dsimp only
  refine (fold_add _ _ _).trans ?_
  rw [zero_add, ← List.ofFn_eq_map, List.sum_ofFn, ← sum_window F t ht,
    ← Fin.sum_univ_eq_sum_range (fun n => if 63 ≤ t.val + n then F (t.val + n - 63) else 0) 64]
  refine Finset.sum_congr rfl fun n _ => ?_
  obtain ⟨p0, p1, p2⟩ := place n
  have hn : n.val < 64 := n.isLt
  split
  · next hin =>
    have h2 := hin 2
    change 63 ≤ t.val * 1 + ((⟨3, ![1, 1, 64]⟩ : Shape).rowMajor.symm n 2).val
      ∧ t.val * 1 + ((⟨3, ![1, 1, 64]⟩ : Shape).rowMajor.symm n 2).val - 63 < 64 at h2
    rw [p2, Nat.mul_one] at h2
    rw [if_pos h2.1]
    refine (congrArg x (funext fun a => Fin.ext ?_)).trans (hx ⟨t.val + n.val - 63, h2.2⟩)
    match a with
    | ⟨0, _⟩ =>
      show D.val * 1 + ((⟨3, ![1, 1, 64]⟩ : Shape).rowMajor.symm n 0).val - 0 = D.val
      omega
    | ⟨1, _⟩ =>
      show h.val * 1 + ((⟨3, ![1, 1, 64]⟩ : Shape).rowMajor.symm n 1).val - 0 = h.val
      omega
    | ⟨2, _⟩ =>
      show t.val * 1 + ((⟨3, ![1, 1, 64]⟩ : Shape).rowMajor.symm n 2).val - 63 = t.val + n.val - 63
      omega
  · next hin =>
    rw [if_neg]
    refine fun hle => hin fun a => ?_
    match a with
    | ⟨0, _⟩ =>
      show 0 ≤ D.val * 1 + ((⟨3, ![1, 1, 64]⟩ : Shape).rowMajor.symm n 0).val
        ∧ D.val * 1 + ((⟨3, ![1, 1, 64]⟩ : Shape).rowMajor.symm n 0).val - 0 < 8
      omega
    | ⟨1, _⟩ =>
      show 0 ≤ h.val * 1 + ((⟨3, ![1, 1, 64]⟩ : Shape).rowMajor.symm n 1).val
        ∧ h.val * 1 + ((⟨3, ![1, 1, 64]⟩ : Shape).rowMajor.symm n 1).val - 0 < 8
      omega
    | ⟨2, _⟩ =>
      show 63 ≤ t.val * 1 + ((⟨3, ![1, 1, 64]⟩ : Shape).rowMajor.symm n 2).val
        ∧ t.val * 1 + ((⟨3, ![1, 1, 64]⟩ : Shape).rowMajor.symm n 2).val - 63 < 64
      omega

end Cert.ReferenceIdeal.Step

end
-- ==== Proof.RefStep.lean ====
/- What one trip of the reference's loop does to the state of one row and head: the recurrence in closed form, a chunk further. -/
module

public import proofs.«01_k».proof.Proof.RefPure

@[expose] public section

set_option maxRecDepth 16384

noncomputable section

namespace Cert.ReferenceIdeal.Step

open Idealize.ShloMosaic Idealize.ShloMosaic.TcCoe Idealize.SL.Sem Cert.ReferenceIdeal Cert.Chunk

/-- The state before trip `j`, at one row and head, over the real numbers: the sequences that the loop reads, and the recurrence after the times
    before `64 * j`. -/
structure Row (j : ℕ) (s : State Ideal) (D h : Fin 8) (ig f : ℕ → ℝ) (q k : ℕ → Fin 256 → ℝ) (v : ℕ → Fin 512 → ℝ) : Prop where
  hq : ∀ (n t : Fin 64) (e : Fin 256), s.main_v72_0 (ix5 n D h t e) = ((q (64 * n.val + t.val) e : ℝ) : EReal)
  hk : ∀ (n t : Fin 64) (e : Fin 256), s.main_v72_1 (ix5 n D h t e) = ((k (64 * n.val + t.val) e : ℝ) : EReal)
  hv : ∀ (n t : Fin 64) (c : Fin 512), s.main_v72_2 (ix5 n D h t c) = ((v (64 * n.val + t.val) c : ℝ) : EReal)
  hi : ∀ n t : Fin 64, s.main_v72_3 (ix4 n D h t) = ((ig (64 * n.val + t.val) : ℝ) : EReal)
  hf : ∀ n t : Fin 64, s.main_v72_4 (ix4 n D h t) = ((f (64 * n.val + t.val) : ℝ) : EReal)
  hC : ∀ (c : Fin 512) (e : Fin 256), s.main_v72_7 (ix4 D h c e) = ((wsum (relGate f ig) (fun s => k s e * v s c) (64 * j) : ℝ) : EReal)
  hN : ∀ e : Fin 256, s.main_v72_8 (ix3 D h e) = ((wsum (relGate f ig) (fun s => k s e * 1) (64 * j) : ℝ) : EReal)
  hM : s.main_v72_9 (ix2 D h) = ((run (relGate f ig) (64 * j) + pre f (64 * j) : ℝ) : EReal)

variable {j : ℕ} {s : State Ideal} {D h : Fin 8} {ig f : ℕ → ℝ} {q k : ℕ → Fin 256 → ℝ} {v : ℕ → Fin 512 → ℝ}

/-- The order of a chunk's lanes, which is theirs. -/
abbrev same : Equiv.Perm (Fin 64) := Equiv.refl _

theorem cum_at (r : Row j s D h ig f q k v) (hj : j < 64) (t : Fin 64) :
    b30 j s (ix3 D h t) = ((pre f (64 * j + t.val + 1) - pre f (64 * j) : ℝ) : EReal) := by
  unfold b30
  rw [cumsum_at D h (b27 j s) (b29 j s) (by pointwise [b29, b28]) (fun l => ((f (64 * j + l) : ℝ) : EReal))
    (fun l => (b27_at j s D h hj l).trans (r.hf _ _)) t, ← coe_sum, pre_add]
  rfl

theorem last_at (r : Row j s D h ig f q k v) (hj : j < 64) : b77 j s (ix2 D h) = ((pre f (64 * j + 64) - pre f (64 * j) : ℝ) : EReal) := by
  pointwise [b77, b76]
  exact cum_at r hj 63

/-- The comparison of two lane numbers, as words. -/
theorem word_ge (a b : Fin 64) : IntOp.cmpi .sge (IntOp.addi (BitVec.ofNat 32 a) 0#32) (BitVec.ofNat 32 b) = if b.val ≤ a.val then 1#1 else 0#1 := by
  have e : IntOp.addi (BitVec.ofNat 32 a.val) 0#32 = BitVec.ofNat 32 a.val := BitVec.add_zero _
  rw [e]
  show BitVec.ofBool (BitVec.sle (BitVec.ofNat 32 b.val) (BitVec.ofNat 32 a.val)) = _
  rw [BitVec.sle_eq_decide, word_int _ a.isLt, word_int _ b.isLt]
  by_cases hab : b.val ≤ a.val
  · rw [if_pos hab, decide_eq_true (by omega)]; rfl
  · rw [if_neg hab, decide_eq_false (by omega)]; rfl

theorem mask_at (r : Row j s D h ig f q k v) (hj : j < 64) (t l : Fin 64) :
    b43 j s (ix4 D h t l) = if l.val ≤ t.val then ((relGate f ig (64 * j + l.val) + pre f (64 * j + t.val + 1) : ℝ) : EReal) else ⊥ := by
  pointwise [b43, b42, b41, b40, b39, b38, b37, b36, b35, b34, b33, b32, b31, K_main_v57, K_main_call5_v4, K_main_call5_v2, K_main_call5_v1,
    K_main_call5_v0, K_main_call5_v3, K_main_v56, K_main_call5_v5, K_main_c, K_main_call5_c_0, K_main_call5_c]
  rw [word_ge, cum_at r hj, cum_at r hj, b22_at j s D h hj, r.hi, const_bot, ← EReal.coe_sub, ← EReal.coe_add]
  split
  · refine congrArg (fun y : ℝ => (y : EReal)) ?_
    unfold relGate
    dsimp only
    ring
  · rfl

theorem inter_at (r : Row j s D h ig f q k v) (hj : j < 64) (t : Fin 64) :
    b46 j s (ix3 D h t) = ((run (relGate f ig) (64 * j) + pre f (64 * j + t.val + 1) : ℝ) : EReal) := by
  pointwise [b46, b45, b44]
  rw [cum_at r hj, r.hM, ← EReal.coe_add]
  refine congrArg (fun y : ℝ => (y : EReal)) ?_
  ring

theorem max_at (r : Row j s D h ig f q k v) (hj : j < 64) (t : Fin 64) :
    b49 j s (ix3 D h t) = ((run (relGate f ig) (64 * j + t.val + 1) + pre f (64 * j + t.val + 1) : ℝ) : EReal) := by
  pointwise [b49, b48, b47]
  rw [const_bot, inter_at r hj, max_comm]
  exact run_lanes same _ _ (64 * j) t t.isLt _ fun l => mask_at r hj t l

theorem weight_at (r : Row j s D h ig f q k v) (hj : j < 64) (t l : Fin 64) :
    b55 j s (ix4 D h t l) = ((if l.val ≤ t.val then Real.exp (relGate f ig (64 * j + l.val) - run (relGate f ig) (64 * j + t.val + 1))
      * ∑ e, q (64 * j + t.val) e * k (64 * j + l.val) e else 0 : ℝ) : EReal) := by
  pointwise [b55, b54, b53, b52, b51, b50]
  rw [sum_coe _ _ (fun e => q (64 * j + t.val) e * k (64 * j + l.val) e)
    (fun e => by rw [b5_at j s D h hj, b11_at j s D h hj, r.hq, r.hk, ← EReal.coe_mul]), mask_at r hj, max_at r hj]
  split
  · rw [← EReal.coe_sub, Ideal.exp_coe, ← EReal.coe_mul]
    refine congrArg (fun y : ℝ => (y : EReal)) ?_
    rw [add_sub_add_right_eq_sub, mul_comm]
  · rw [EReal.bot_sub, Ideal.exp_bot, mul_zero]; rfl

theorem decay_at (r : Row j s D h ig f q k v) (hj : j < 64) (t : Fin 64) :
    b57 j s (ix3 D h t) = ((Real.exp (run (relGate f ig) (64 * j) - run (relGate f ig) (64 * j + t.val + 1)) : ℝ) : EReal) := by
  pointwise [b57, b56]
  rw [inter_at r hj, max_at r hj, ← EReal.coe_sub, Ideal.exp_coe, add_sub_add_right_eq_sub]

theorem num_at (r : Row j s D h ig f q k v) (hj : j < 64) (t : Fin 64) (c : Fin 512) :
    b63 j s (ix4 D h t c) = ((wsum (relGate f ig) (fun s => (∑ e, q (64 * j + t.val) e * k s e) * v s c) (64 * j + t.val + 1) : ℝ) : EReal) := by
  have hd := decay_at r hj t
  pointwise [b57, b56] at hd
  pointwise [b63, b62, b61, b60, b59, b58, b57, b56]
  rw [hd, ← wsum_lanes same _ _ (64 * j) t t.isLt]
  refine Eq.trans (Ideal.add_congr ?_ ?_) (EReal.coe_add _ _).symm
  · rw [sum_coe _ _ (fun e => q (64 * j + t.val) e * wsum (relGate f ig) (fun s => k s e * v s c) (64 * j))
      (fun e => by rw [b5_at j s D h hj, r.hq, r.hC, ← EReal.coe_mul]), ← EReal.coe_mul]
    refine congrArg (fun y : ℝ => (y : EReal)) ?_
    have e := contract (relGate f ig) (q (64 * j + t.val)) k (fun s => v s c) 1 (64 * j)
    simp only [one_mul, mul_one] at e
    rw [e]
  · refine sum_coe _ _ _ fun l => ?_
    rw [weight_at r hj, b17_at j s D h hj, r.hv, ← EReal.coe_mul]
    refine congrArg (fun y : ℝ => (y : EReal)) ?_
    show (if l.val ≤ t.val then _ else 0) * _ = if l.val ≤ t.val then _ else 0
    split
    · exact mul_assoc _ _ _
    · exact zero_mul _

/-- The weighted sum of the products of queries and keys. -/
theorem den_at (r : Row j s D h ig f q k v) (hj : j < 64) (t : Fin 64) :
    b68 j s (ix3 D h t) = ((wsum (relGate f ig) (fun s => ∑ e, q (64 * j + t.val) e * k s e) (64 * j + t.val + 1) : ℝ) : EReal) := by
  pointwise [b68, b67, b66, b65, b64]
  rw [decay_at r hj, ← wsum_lanes same _ _ (64 * j) t t.isLt]
  refine Eq.trans (Ideal.add_congr ?_ ?_) (EReal.coe_add _ _).symm
  · rw [sum_coe _ _ (fun e => q (64 * j + t.val) e * wsum (relGate f ig) (fun s => k s e * 1) (64 * j))
      (fun e => by rw [b5_at j s D h hj, r.hq, r.hN, ← EReal.coe_mul, mul_comm]), ← EReal.coe_mul]
    refine congrArg (fun y : ℝ => (y : EReal)) ?_
    have e := contract (relGate f ig) (q (64 * j + t.val)) k (fun _ => 1) 1 (64 * j)
    simp only [one_mul, mul_one] at e ⊢
    rw [e]
  · refine sum_coe _ _ _ fun l => ?_
    exact weight_at r hj t l

/-- The results of a trip. -/
theorem out_at (r : Row j s D h ig f q k v) (hj : j < 64) (t : Fin 64) (c : Fin 512) :
    b75 j s (ix4 D h t c)
      = ((outAt f ig (fun s => ∑ e, q (64 * j + t.val) e * k s e) (fun s => v s c) (64 * j + t.val) : ℝ) : EReal) := by
  have hd := den_at r hj t
  pointwise [b68, b67, b66, b65, b64] at hd
  pointwise [b75, b74, b73, b72, b71, b70, b69, b68, b67, b66, b65, b64]
  rw [hd, num_at r hj, max_at r hj]
  show Ideal.div _ (max (max _ (-_)) _) = _
  rw [div_floor]
  refine congrArg (fun y : ℝ => (y : EReal)) ?_
  unfold outAt
  rw [add_comm (run _ _)]

theorem rel_at (r : Row j s D h ig f q k v) (hj : j < 64) (l : Fin 64) :
    b81 j s (ix3 D h l) = ((relGate f ig (64 * j + l.val) + pre f (64 * j + 64) : ℝ) : EReal) := by
  have hl := last_at r hj
  pointwise [b77, b76] at hl
  pointwise [b81, b80, b79, b78, b77, b76]
  rw [hl, cum_at r hj, b22_at j s D h hj, r.hi, ← EReal.coe_sub, ← EReal.coe_add]
  refine congrArg (fun y : ℝ => (y : EReal)) ?_
  unfold relGate
  dsimp only
  ring

theorem top_at (r : Row j s D h ig f q k v) (hj : j < 64) :
    b85 j s (ix2 D h) = ((run (relGate f ig) (64 * j + 64) + pre f (64 * j + 64) : ℝ) : EReal) := by
  pointwise [b85, b84, b83, b82]
  rw [const_bot, last_at r hj, r.hM, max_comm, ← EReal.coe_add,
    show pre f (64 * j + 64) - pre f (64 * j) + (run (relGate f ig) (64 * j) + pre f (64 * j)) = run (relGate f ig) (64 * j) + pre f (64 * j + 64) by ring]
  exact run_lanes_all same _ _ (64 * j) (by decide) _ fun l => rel_at r hj l

theorem fade_at (r : Row j s D h ig f q k v) (hj : j < 64) :
    b88 j s (ix2 D h) = ((Real.exp (run (relGate f ig) (64 * j) - run (relGate f ig) (64 * j + 64)) : ℝ) : EReal) := by
  pointwise [b88, b87, b86]
  rw [last_at r hj, r.hM, top_at r hj, ← EReal.coe_add, ← EReal.coe_sub, Ideal.exp_coe]
  refine congrArg (fun y : ℝ => ((Real.exp y : ℝ) : EReal)) ?_
  ring

theorem gain_at (r : Row j s D h ig f q k v) (hj : j < 64) (l : Fin 64) :
    b92 j s (ix3 D h l) = ((Real.exp (relGate f ig (64 * j + l.val) - run (relGate f ig) (64 * j + 64)) : ℝ) : EReal) := by
  pointwise [b92, b91, b90, b89]
  rw [rel_at r hj, top_at r hj, ← EReal.coe_sub, Ideal.exp_coe, add_sub_add_right_eq_sub]

theorem mat_at (r : Row j s D h ig f q k v) (hj : j < 64) (c : Fin 512) (e : Fin 256) :
    b100 j s (ix4 D h c e) = ((wsum (relGate f ig) (fun s => k s e * v s c) (64 * j + 64) : ℝ) : EReal) := by
  pointwise [b100, b99, b98, b97, b96, b95, b94, b93]
  rw [fade_at r hj, r.hC, ← EReal.coe_mul, ← wsum_lanes_all same]
  refine Eq.trans (Ideal.add_congr rfl ?_) (EReal.coe_add _ _).symm
  refine sum_coe _ _ _ fun l => ?_
  rw [gain_at r hj, b17_at j s D h hj, b11_at j s D h hj, r.hv, r.hk, ← EReal.coe_mul, ← EReal.coe_mul]
  refine congrArg (fun y : ℝ => (y : EReal)) ?_
  rw [mul_assoc, mul_comm (v _ _)]
  rfl

theorem vec_at (r : Row j s D h ig f q k v) (hj : j < 64) (e : Fin 256) :
    b105 j s (ix3 D h e) = ((wsum (relGate f ig) (fun s => k s e * 1) (64 * j + 64) : ℝ) : EReal) := by
  have hN := r.hN e
  pointwise [b105, b104, b103, b102, b101]
  simp only [mul_one] at hN ⊢
  rw [fade_at r hj, hN, ← EReal.coe_mul, ← wsum_lanes_all same]
  refine Eq.trans (Ideal.add_congr rfl ?_) (EReal.coe_add _ _).symm
  refine sum_coe _ _ _ fun l => ?_
  rw [gain_at r hj, b11_at j s D h hj, r.hk, ← EReal.coe_mul]
  rfl

/-- A trip takes the state to the next chunk's. -/
theorem row_next (r : Row j s D h ig f q k v) (hj : j < 64) : Row (j + 1) (step j s) D h ig f q k v where
  hq := r.hq
  hk := r.hk
  hv := r.hv
  hi := r.hi
  hf := r.hf
  hC c e := by rw [step_main_v72_7, mat_at r hj]; rfl
  hN e := by rw [step_main_v72_8, vec_at r hj]; rfl
  hM := by rw [step_main_v72_9, top_at r hj]; rfl

end Cert.ReferenceIdeal.Step

end
-- ==== Proof.RefRun.lean ====
/- The reference's run as the iterated step of its loop: the values at the loop's carried buffers are a state, one trip of the loop is
   `Step.step` on it, and the result is read off the state after the last of the 64 trips. -/
module

public import proofs.«01_k».proof.Proof.Gen.ReferenceIdeal.Run
public import proofs.«01_k».proof.Proof.Gen.ReferenceIdeal.Step

@[expose] public section

set_option maxRecDepth 65536

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The state that stands in the loop's carried buffers. -/
def stateOf (V : Valuation τ sig (Elt F)) : State F where
  main_v72_7 := V (Proc.devRef .tc main_v72_7)
  main_v72_8 := V (Proc.devRef .tc main_v72_8)
  main_v72_9 := V (Proc.devRef .tc main_v72_9)
  main_v72_10 := V (Proc.devRef .tc main_v72_10)
  main_v72_0 := V (Proc.devRef .tc main_v72_0)
  main_v72_1 := V (Proc.devRef .tc main_v72_1)
  main_v72_2 := V (Proc.devRef .tc main_v72_2)
  main_v72_3 := V (Proc.devRef .tc main_v72_3)
  main_v72_4 := V (Proc.devRef .tc main_v72_4)

/-- Before trip `j`: the carried buffers hold `s`, the counter `j`, and the lower triangle is the one prepared before the loop. -/
def At (V : Valuation τ sig (Elt F)) (s : State F) (j : ℕ) : Prop :=
  stateOf V = s ∧ V (Proc.devRef .tc main_v72_6) = constantI S_ 32 (BitVec.ofNat 32 j)
    ∧ V (Proc.devRef .tc main_v72_5) = K_main_v57 (F := F)

/-- One trip writes `step` of the state it found. -/
theorem stateOf_trip (V : Valuation τ sig (Elt F)) (j : ℕ) (hn : V (Proc.devRef .tc main_v72_6) = constantI S_ 32 (BitVec.ofNat 32 j))
    (hk : V (Proc.devRef .tc main_v72_5) = K_main_v57 (F := F)) : stateOf (STEP V) = step j (stateOf V) := by
  unfold stateOf
  rw [STEP_main_v72_7, STEP_main_v72_8, STEP_main_v72_9, STEP_main_v72_10, STEP_main_v72_0, STEP_main_v72_1, STEP_main_v72_2, STEP_main_v72_3,
    STEP_main_v72_4]
  simp only [step,
    b0, b1, b2, b3, b4, b5, b6, b7, b8, b9, b10, b11, b12, b13, b14, b15, b16, b17, b18, b19, b20, b21, b22, b23,
    b24, b25, b26, b27, b28, b29, b30, b31, b32, b33, b34, b35, b36, b37, b38, b39, b40, b41, b42, b43, b44, b45,
    b46, b47, b48, b49, b50, b51, b52, b53, b54, b55, b56, b57, b58, b59, b60, b61, b62, b63, b64, b65, b66, b67,
    b68, b69, b70, b71, b72, b73, b74, b75, b76, b77, b78, b79, b80, b81, b82, b83, b84, b85, b86, b87, b88, b89,
    b90, b91, b92, b93, b94, b95, b96, b97, b98, b99, b100, b101, b102, b103, b104, b105, b106, b107, b108, b109,
    b110, b111,
    ← hn, ← hk]
  rfl

theorem At.trip {V : Valuation τ sig (Elt F)} {s : State F} {j : ℕ} (h : At V s j) : At (STEP V) (step j s) (j + 1) := by
  obtain ⟨hs, hn, hk⟩ := h
  refine ⟨by rw [stateOf_trip V j hn hk, hs], ?_, (STEP_main_v72_5 V).trans hk⟩
  rw [STEP_main_v72_6]
  unfold step_main_v72_6
  rw [hn]
  funext i
  show BitVec.ofNat 32 j + 1#32 = BitVec.ofNat 32 (j + 1)
  rw [BitVec.ofNat_add]

variable (m : (ℓ : Loc nD τ sig) → Buf (Elt F) ℓ) (c : Dev nD)

/-- The state before the first trip: zeros, and the sequences cut into chunks. -/
abbrev first : State F :=
  init (m ((c.tc : Thread nD τ).loc main_arg0)) (m ((c.tc : Thread nD τ).loc main_arg1)) (m ((c.tc : Thread nD τ).loc main_arg2))
    (m ((c.tc : Thread nD τ).loc main_arg3))

/-- The state before trip `n`. -/
def stateAt : ℕ → State F
  | 0 => first m c
  | n + 1 => step n (stateAt n)

theorem stateOf_eq {V : Valuation τ sig (Elt F)} {s : State F} (h7 : V (Proc.devRef .tc main_v72_7) = s.main_v72_7)
    (h8 : V (Proc.devRef .tc main_v72_8) = s.main_v72_8) (h9 : V (Proc.devRef .tc main_v72_9) = s.main_v72_9)
    (h10 : V (Proc.devRef .tc main_v72_10) = s.main_v72_10) (h0 : V (Proc.devRef .tc main_v72_0) = s.main_v72_0)
    (h1 : V (Proc.devRef .tc main_v72_1) = s.main_v72_1) (h2 : V (Proc.devRef .tc main_v72_2) = s.main_v72_2)
    (h3 : V (Proc.devRef .tc main_v72_3) = s.main_v72_3) (h4 : V (Proc.devRef .tc main_v72_4) = s.main_v72_4) : stateOf V = s := by
  cases s
  unfold stateOf
  rw [h7, h8, h9, h10, h0, h1, h2, h3, h4]

theorem out_eq (V : Valuation τ sig (Elt F)) : out_main_v85 V = R_main_v85 (stateOf V) := by
  unfold out_main_v85 R_main_v85 stateOf
  rfl

set_option maxHeartbeats 800000 in
theorem at_first : At (entryContents preI m c) (first m c) 0 := by
  refine ⟨stateOf_eq ?_ ?_ ?_ ?_ ?_ ?_ ?_ ?_ ?_, ?_, ?_⟩ <;> (simp only [entryContents, afterL_cons, afterL_nil]; after_reads_simp) <;> rfl

theorem at_stateAt : ∀ n, At (STEP^[n] (entryContents preI m c)) (stateAt m c n) n
  | 0 => at_first m c
  | n + 1 => by
    rw [Function.iterate_succ_apply']
    exact (at_stateAt n).trip

/-- The run ends with the result read off the state after 64 trips, and the arguments as they were. -/
theorem run_state (ρ : Dev nD → PrngReg) :
    θ_run (defs (F := F)) (onTc (τ := τ) (main (F := F))) ⟨m, fun _ => 0, ρ⟩ fun r => ∀ c : Dev nD,
      r.2.mem ((c.tc : Thread nD τ).loc main_v85) = R_main_v85 (stateAt m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  rw [out_eq, (at_stateAt m c 64).1]

end Cert.RefRun

end
-- ==== Proof.Cut.lean ====
/- An axis of times cut into chunks and put together again, and the chunks brought to the front and back, element by element. -/
module

public import Idealize.ShloMosaic.Lib.ValueLayout
public import Idealize.ShloMosaic.Lib.Pipeline.Value
public import Idealize.ShloMosaic.Lib.Pointwise.Index
public import Idealize.ShloMosaic.Lib.ValueIdx

@[expose] public section

set_option maxRecDepth 16384

noncomputable section

namespace Cert.Cut

open Idealize.ShloMosaic

variable {α : Type} {a b m n t e : ℕ}

theorem cut_wide (hm : n * t = m) (x : (⟨4, ![a, b, m, e]⟩ : Shape).Idx → α) (h : (⟨4, ![a, b, m, e]⟩ : Shape).ShapeCasts ⟨5, ![a, b, n, t, e]⟩)
    (i : Fin a) (j : Fin b) (k : Fin n) (l : Fin t) (c : Fin e) (z : Fin m) (hz : z.val = k.val * t + l.val) :
    shapeCast ⟨5, ![a, b, n, t, e]⟩ x h (ix5 i j k l c) = x (ix4 i j z c) :=
  shapeCast_apply x h _ _ (by
    subst hm
    rw [Shape.rowMajor_val_four, Shape.rowMajor_val_five]
    show ((i.val * b + j.val) * (n * t) + z.val) * e + c.val = (((i.val * b + j.val) * n + k.val) * t + l.val) * e + c.val
    rw [hz]
    ring)

theorem cut_gate (hm : n * t = m) (x : (⟨3, ![a, b, m]⟩ : Shape).Idx → α) (h : (⟨3, ![a, b, m]⟩ : Shape).ShapeCasts ⟨4, ![a, b, n, t]⟩)
    (i : Fin a) (j : Fin b) (k : Fin n) (l : Fin t) (z : Fin m) (hz : z.val = k.val * t + l.val) :
    shapeCast ⟨4, ![a, b, n, t]⟩ x h (ix4 i j k l) = x (ix3 i j z) :=
  shapeCast_apply x h _ _ (by
    subst hm
    rw [Shape.rowMajor_val_three, Shape.rowMajor_val_four]
    show (i.val * b + j.val) * (n * t) + z.val = ((i.val * b + j.val) * n + k.val) * t + l.val
    rw [hz]
    ring)

theorem glue_wide (hm : n * t = m) (x : (⟨5, ![a, b, n, t, e]⟩ : Shape).Idx → α) (h : (⟨5, ![a, b, n, t, e]⟩ : Shape).ShapeCasts ⟨4, ![a, b, m, e]⟩)
    (i : Fin a) (j : Fin b) (k : Fin n) (l : Fin t) (c : Fin e) (z : Fin m) (hz : z.val = k.val * t + l.val) :
    shapeCast ⟨4, ![a, b, m, e]⟩ x h (ix4 i j z c) = x (ix5 i j k l c) :=
  shapeCast_apply x h _ _ (by
    subst hm
    rw [Shape.rowMajor_val_four, Shape.rowMajor_val_five]
    show (((i.val * b + j.val) * n + k.val) * t + l.val) * e + c.val = ((i.val * b + j.val) * (n * t) + z.val) * e + c.val
    rw [hz]
    ring)

theorem front_wide (x : (⟨5, ![a, b, n, t, e]⟩ : Shape).Idx → α) (h : (⟨5, ![a, b, n, t, e]⟩ : Shape).Transposes [2, 0, 1, 3, 4] ⟨5, ![n, a, b, t, e]⟩)
    (i : Fin a) (j : Fin b) (k : Fin n) (l : Fin t) (c : Fin e) : transpose ⟨5, ![n, a, b, t, e]⟩ [2, 0, 1, 3, 4] x h (ix5 k i j l c) = x (ix5 i j k l c) :=
  transpose_apply _ x h _ _ fun c => match c with | ⟨0, _⟩ => rfl | ⟨1, _⟩ => rfl | ⟨2, _⟩ => rfl | ⟨3, _⟩ => rfl | ⟨4, _⟩ => rfl

theorem front_gate (x : (⟨4, ![a, b, n, t]⟩ : Shape).Idx → α) (h : (⟨4, ![a, b, n, t]⟩ : Shape).Transposes [2, 0, 1, 3] ⟨4, ![n, a, b, t]⟩)
    (i : Fin a) (j : Fin b) (k : Fin n) (l : Fin t) : transpose ⟨4, ![n, a, b, t]⟩ [2, 0, 1, 3] x h (ix4 k i j l) = x (ix4 i j k l) :=
  transpose_apply _ x h _ _ fun c => match c with | ⟨0, _⟩ => rfl | ⟨1, _⟩ => rfl | ⟨2, _⟩ => rfl | ⟨3, _⟩ => rfl

theorem back_wide (x : (⟨5, ![n, a, b, t, e]⟩ : Shape).Idx → α) (h : (⟨5, ![n, a, b, t, e]⟩ : Shape).Transposes [1, 2, 0, 3, 4] ⟨5, ![a, b, n, t, e]⟩)
    (i : Fin a) (j : Fin b) (k : Fin n) (l : Fin t) (c : Fin e) : transpose ⟨5, ![a, b, n, t, e]⟩ [1, 2, 0, 3, 4] x h (ix5 i j k l c) = x (ix5 k i j l c) :=
  transpose_apply _ x h _ _ fun c => match c with | ⟨0, _⟩ => rfl | ⟨1, _⟩ => rfl | ⟨2, _⟩ => rfl | ⟨3, _⟩ => rfl | ⟨4, _⟩ => rfl

/-- Batches of heads' rows turned into rows of the heads' columns. -/
theorem rows_of (x : (⟨4, ![a, b, n, e]⟩ : Shape).Idx → α) (h : (⟨4, ![a, b, n, e]⟩ : Shape).Transposes [0, 2, 1, 3] ⟨4, ![a, n, b, e]⟩)
    (i : Fin a) (j : Fin b) (k : Fin n) (c : Fin e) : transpose ⟨4, ![a, n, b, e]⟩ [0, 2, 1, 3] x h (ix4 i k j c) = x (ix4 i j k c) :=
  transpose_apply _ x h _ _ fun c => match c with | ⟨0, _⟩ => rfl | ⟨1, _⟩ => rfl | ⟨2, _⟩ => rfl | ⟨3, _⟩ => rfl

theorem flat_rows {r u : ℕ} (hr : a * n = r) (hu : b * e = u) (x : (⟨4, ![a, n, b, e]⟩ : Shape).Idx → α) (h : (⟨4, ![a, n, b, e]⟩ : Shape).ShapeCasts ⟨2, ![r, u]⟩)
    (i : Fin a) (k : Fin n) (j : Fin b) (c : Fin e) (y : Fin r) (z : Fin u) (hy : y.val = i.val * n + k.val) (hz : z.val = j.val * e + c.val) :
    shapeCast ⟨2, ![r, u]⟩ x h (ix2 y z) = x (ix4 i k j c) :=
  shapeCast_apply x h _ _ (by
    subst hr hu
    rw [Shape.rowMajor_val_four, Shape.rowMajor_val_two]
    show ((i.val * n + k.val) * b + j.val) * e + c.val = y.val * (b * e) + z.val
    rw [hy, hz]
    ring)

end Cert.Cut

end
-- ==== Proof.RefArrays.lean ====
/- The sequences the reference's loop reads, chunk by chunk, hold the inputs' numbers. -/
module

public import proofs.«01_k».proof.Proof.Gen.ReferenceIdeal.Step
public import proofs.«01_k».proof.Proof.Inputs
public import proofs.«01_k».proof.Proof.Cut

@[expose] public section

set_option maxRecDepth 16384

noncomputable section

namespace Cert.ReferenceIdeal.Step

open Idealize.ShloMosaic Idealize.ShloMosaic.TcCoe Idealize.SL.Sem Cert.ReferenceIdeal Cert.Chunk Cert.Cut

variable {I : Inputs} {X : FVec Ideal ⟨2, ![16384, 24576]⟩ .bf16} {G : FVec Ideal ⟨2, ![128, 16384]⟩ .f32} {A B : FVec Ideal ⟨1, ![16]⟩ .f32}
variable (D h : Fin 8)

/-- The first four of the eight read the rows forwards, the others from the end. -/
theorem row_of (s : ℕ) (hD : D.val < 4) : D.val * 4096 + s = row (D.val / 4) (D.val % 4) s := by
  unfold row
  rw [if_pos (by omega)]
  omega

theorem row_of_rev (s : ℕ) (hD : ¬D.val < 4) : (D.val - 4) * 4096 + (4095 - s) = row (D.val / 4) (D.val % 4) s := by
  unfold row
  have := D.isLt
  rw [if_neg (by omega)]
  omega

theorem q_cut (n t : Fin 64) (e : Fin 256) : A_main_v62 (F := Ideal) X G A B (ix5 n D h t e) = A_main_v39 (F := Ideal) X G A B (ix4 D h ⟨64 * n.val + t.val, by omega⟩ e) := by
  unfold A_main_v62
  refine (front_wide _ _ D h n t e).trans ?_
  unfold A_main_v61
  exact cut_wide rfl _ _ D h n t e _ (by dsimp only; omega)

theorem q_halves (x : Fin 4096) (e : Fin 256) : A_main_v39 (F := Ideal) X G A B (ix4 D h x e)
    = if hD : D.val < 4 then A_main_v6 (F := Ideal) X G A B (ix4 ⟨D.val, hD⟩ h x e) else A_main_v6 (F := Ideal) X G A B (ix4 ⟨D.val - 4, by omega⟩ h x.rev e) := by
  pointwise [A_main_v39, A_main_v38]
  simp

theorem q_at (hI : Holds I X G A B) (n t : Fin 64) (e : Fin 256) : A_main_v62 (F := Ideal) X G A B (ix5 n D h t e) = ((qs I (D.val / 4) (D.val % 4) h (64 * n.val + t.val) e : ℝ) : EReal) := by
  have half : ∀ (b : Fin 4) (x : Fin 4096), A_main_v6 (F := Ideal) X G A B (ix4 b h x e) = ((I.p (b.val * 4096 + x.val) (256 * h.val + e.val) : ℝ) : EReal) := by
    intro b x
    pointwise [A_main_v6, A_main_v5, A_main_v4, A_main_v1, A_main_v0]
    rw [hI.hp _ _ (by dsimp only; omega)]
    refine congrArg (fun y : ℝ => (y : EReal)) ?_
    dsimp only
    congr 1 <;> omega
  rw [q_cut, q_halves]
  unfold qs
  split
  · rename_i hD
    rw [half, ← row_of D _ hD]
  · rename_i hD
    rw [half, ← row_of_rev D _ hD]
    refine congrArg (fun r : ℕ => ((I.p r _ : ℝ) : EReal)) ?_
    show (D.val - 4) * 4096 + (4096 - (64 * n.val + t.val + 1)) = _
    omega

theorem k_cut (n t : Fin 64) (e : Fin 256) : A_main_v64 (F := Ideal) X G A B (ix5 n D h t e) = A_main_v41 (F := Ideal) X G A B (ix4 D h ⟨64 * n.val + t.val, by omega⟩ e) := by
  unfold A_main_v64
  refine (front_wide _ _ D h n t e).trans ?_
  unfold A_main_v63
  exact cut_wide rfl _ _ D h n t e _ (by dsimp only; omega)

theorem k_halves (x : Fin 4096) (e : Fin 256) : A_main_v41 (F := Ideal) X G A B (ix4 D h x e)
    = if hD : D.val < 4 then A_main_v11 (F := Ideal) X G A B (ix4 ⟨D.val, hD⟩ h x e) else A_main_v11 (F := Ideal) X G A B (ix4 ⟨D.val - 4, by omega⟩ h x.rev e) := by
  pointwise [A_main_v41, A_main_v40]
  simp

theorem k_at (hI : Holds I X G A B) (n t : Fin 64) (e : Fin 256) : A_main_v64 (F := Ideal) X G A B (ix5 n D h t e) = ((ks I (D.val / 4) (D.val % 4) h (64 * n.val + t.val) e * (1 / 16) : ℝ) : EReal) := by
  have half : ∀ (b : Fin 4) (x : Fin 4096), A_main_v11 (F := Ideal) X G A B (ix4 b h x e) = ((I.p (b.val * 4096 + x.val) (2048 + 256 * h.val + e.val) * (1 / 16) : ℝ) : EReal) := by
    intro b x
    pointwise [A_main_v11, K_main_v10, K_main_cst, A_main_v9, A_main_v8, A_main_v7, A_main_v1, A_main_v0]
    rw [hI.hp _ _ (by dsimp only; omega)]
    refine Eq.trans (congrArg₂ (fun y z : EReal => y * z) (congrArg (fun y : ℝ => (y : EReal)) ?_) const_scale) (EReal.coe_mul _ _).symm
    dsimp only
    congr 1 <;> omega
  rw [k_cut, k_halves]
  unfold ks
  split
  · rename_i hD
    rw [half, ← row_of D _ hD]
  · rename_i hD
    rw [half, ← row_of_rev D _ hD]
    refine congrArg (fun r : ℕ => ((I.p r _ * (1 / 16) : ℝ) : EReal)) ?_
    show (D.val - 4) * 4096 + (4096 - (64 * n.val + t.val + 1)) = _
    omega

theorem v_cut (n t : Fin 64) (e : Fin 512) : A_main_v66 (F := Ideal) X G A B (ix5 n D h t e) = A_main_v43 (F := Ideal) X G A B (ix4 D h ⟨64 * n.val + t.val, by omega⟩ e) := by
  unfold A_main_v66
  refine (front_wide _ _ D h n t e).trans ?_
  unfold A_main_v65
  exact cut_wide rfl _ _ D h n t e _ (by dsimp only; omega)

theorem v_halves (x : Fin 4096) (e : Fin 512) : A_main_v43 (F := Ideal) X G A B (ix4 D h x e)
    = if hD : D.val < 4 then A_main_v14 (F := Ideal) X G A B (ix4 ⟨D.val, hD⟩ h x e) else A_main_v14 (F := Ideal) X G A B (ix4 ⟨D.val - 4, by omega⟩ h x.rev e) := by
  pointwise [A_main_v43, A_main_v42]
  simp

theorem v_at (hI : Holds I X G A B) (n t : Fin 64) (e : Fin 512) : A_main_v66 (F := Ideal) X G A B (ix5 n D h t e) = ((vs I (D.val / 4) (D.val % 4) h (64 * n.val + t.val) e : ℝ) : EReal) := by
  have half : ∀ (b : Fin 4) (x : Fin 4096), A_main_v14 (F := Ideal) X G A B (ix4 b h x e) = ((I.p (b.val * 4096 + x.val) (4096 + 512 * h.val + e.val) : ℝ) : EReal) := by
    intro b x
    pointwise [A_main_v14, A_main_v13, A_main_v12, A_main_v1, A_main_v0]
    rw [hI.hp _ _ (by dsimp only; omega)]
    refine congrArg (fun y : ℝ => (y : EReal)) ?_
    dsimp only
    congr 1 <;> omega
  rw [v_cut, v_halves]
  unfold vs
  split
  · rename_i hD
    rw [half, ← row_of D _ hD]
  · rename_i hD
    rw [half, ← row_of_rev D _ hD]
    refine congrArg (fun r : ℕ => ((I.p r _ : ℝ) : EReal)) ?_
    show (D.val - 4) * 4096 + (4096 - (64 * n.val + t.val + 1)) = _
    omega

end Cert.ReferenceIdeal.Step

end
-- ==== Proof.RefGates.lean ====
/- The gates the reference's loop reads, chunk by chunk. -/
module

public import proofs.«01_k».proof.Proof.RefArrays

@[expose] public section

set_option maxRecDepth 16384

noncomputable section

namespace Cert.ReferenceIdeal.Step

open Idealize.ShloMosaic Idealize.ShloMosaic.TcCoe Idealize.SL.Sem Cert.ReferenceIdeal Cert.Chunk Cert.Cut

variable {I : Inputs} {X : FVec Ideal ⟨2, ![16384, 24576]⟩ .bf16} {G : FVec Ideal ⟨2, ![128, 16384]⟩ .f32} {A B : FVec Ideal ⟨1, ![16]⟩ .f32}
variable (D h : Fin 8)

theorem ig_cut (n t : Fin 64) : A_main_v68 (F := Ideal) X G A B (ix4 n D h t) = A_main_v49 (F := Ideal) X G A B (ix3 D h ⟨64 * n.val + t.val, by omega⟩) := by
  unfold A_main_v68
  refine (front_gate _ _ D h n t).trans ?_
  unfold A_main_v67
  exact cut_gate rfl _ _ D h n t _ (by dsimp only; omega)

theorem ig_halves (x : Fin 4096) : A_main_v49 (F := Ideal) X G A B (ix3 D h x)
    = if hD : D.val < 4 then A_main_v21 (F := Ideal) X G A B (ix4 0 ⟨D.val, hD⟩ h x) else A_main_v21 (F := Ideal) X G A B (ix4 1 ⟨D.val - 4, by omega⟩ h x.rev) := by
  pointwise [A_main_v49, A_main_v48, A_main_v47, A_main_v46, A_main_v45, A_main_v44]
  simp

theorem ig_half (hI : Holds I X G A B) (d : Fin 2) (b : Fin 4) (x : Fin 4096) : A_main_v21 (F := Ideal) X G A B (ix4 d b h x)
    = ((I.g (8 * d.val + h.val) (b.val * 4096 + x.val) + I.bi (8 * d.val + h.val) : ℝ) : EReal) := by
  pointwise [A_main_v21, A_main_v20, A_main_v19, A_main_v18, A_main_v17, A_main_v16, A_main_v15, A_main_v3, A_main_v2]
  rw [hI.hg _ _ (by dsimp only; omega), hI.hi]
  refine Eq.trans ?_ (EReal.coe_add _ _).symm
  simp only [Nat.mul_comm]

theorem ig_at (hI : Holds I X G A B) (n t : Fin 64) : A_main_v68 (F := Ideal) X G A B (ix4 n D h t) = ((igs I (D.val / 4) (D.val % 4) h (64 * n.val + t.val) : ℝ) : EReal) := by
  rw [ig_cut, ig_halves]
  unfold igs
  split
  · rename_i hD
    rw [ig_half h hI, ← row_of D _ hD, show D.val / 4 = 0 by omega]
    rfl
  · rename_i hD
    rw [ig_half h hI, ← row_of_rev D _ hD, show D.val / 4 = 1 by omega, show ((1 : Fin 2) : ℕ) = 1 from rfl]
    refine congrArg (fun r : ℕ => ((I.g (8 * 1 + h.val) r + I.bi (8 * 1 + h.val) : ℝ) : EReal)) ?_
    show (D.val - 4) * 4096 + (4096 - (64 * n.val + t.val + 1)) = _
    omega

theorem lf_cut (n t : Fin 64) : A_main_v70 (F := Ideal) X G A B (ix4 n D h t) = A_main_v55 (F := Ideal) X G A B (ix3 D h ⟨64 * n.val + t.val, by omega⟩) := by
  unfold A_main_v70
  refine (front_gate _ _ D h n t).trans ?_
  unfold A_main_v69
  exact cut_gate rfl _ _ D h n t _ (by dsimp only; omega)

theorem lf_halves (x : Fin 4096) : A_main_v55 (F := Ideal) X G A B (ix3 D h x)
    = if hD : D.val < 4 then A_main_v37 (F := Ideal) X G A B (ix4 0 ⟨D.val, hD⟩ h x) else A_main_v37 (F := Ideal) X G A B (ix4 1 ⟨D.val - 4, by omega⟩ h x.rev) := by
  pointwise [A_main_v55, A_main_v54, A_main_v53, A_main_v52, A_main_v51, A_main_v50]
  simp

theorem lf_half (hI : Holds I X G A B) (d : Fin 2) (b : Fin 4) (x : Fin 4096) : A_main_v37 (F := Ideal) X G A B (ix4 d b h x)
    = ((logSig (I.g (16 + 8 * d.val + h.val) (b.val * 4096 + x.val) + I.bf (8 * d.val + h.val)) : ℝ) : EReal) := by
  pointwise [A_main_v37, A_main_v36, A_main_v35, A_main_v34, A_main_v33, A_main_v32, A_main_v31, A_main_v30, K_main_v29, K_main_cst_0, A_main_v28, A_main_v27, A_main_v26, A_main_v25, A_main_v24, A_main_v23, A_main_v22, A_main_v3, A_main_v2]
  rw [hI.hg _ _ (by dsimp only; omega), hI.hf, ← EReal.coe_add]
  refine (logSig_max _).trans ?_
  simp only [Nat.mul_comm, ← Nat.add_assoc]

theorem lf_at (hI : Holds I X G A B) (n t : Fin 64) : A_main_v70 (F := Ideal) X G A B (ix4 n D h t) = ((lfs I (D.val / 4) (D.val % 4) h (64 * n.val + t.val) : ℝ) : EReal) := by
  rw [lf_cut, lf_halves]
  show _ = ((logSig (fgs I (D.val / 4) (D.val % 4) h (64 * n.val + t.val)) : ℝ) : EReal)
  unfold fgs
  split
  · rename_i hD
    rw [lf_half h hI, ← row_of D _ hD, show D.val / 4 = 0 by omega]
    rfl
  · rename_i hD
    rw [lf_half h hI, ← row_of_rev D _ hD, show D.val / 4 = 1 by omega, show ((1 : Fin 2) : ℕ) = 1 from rfl]
    refine congrArg (fun r : ℕ => ((logSig (I.g (16 + 8 * 1 + h.val) r + I.bf (8 * 1 + h.val)) : ℝ) : EReal)) ?_
    show (D.val - 4) * 4096 + (4096 - (64 * n.val + t.val + 1)) = _
    omega

end Cert.ReferenceIdeal.Step

end
-- ==== Proof.RefValue.lean ====
/- The reference over the real numbers returns the recurrence's results. -/
module

public import proofs.«01_k».proof.Proof.RefStep
public import proofs.«01_k».proof.Proof.RefRun
public import proofs.«01_k».proof.Proof.RefGates

@[expose] public section

set_option maxRecDepth 16384

noncomputable section

namespace Cert.ReferenceIdeal.Step

open Idealize.ShloMosaic Idealize.ShloMosaic.TcCoe Idealize.SL.Sem Cert.ReferenceIdeal Cert.ReferenceIdeal.Gen Cert.Chunk Cert.Cut Cert.RefRun

/-! What is returned, of the outputs collected by chunk. -/

theorem chunks_at (y : FVec Ideal S64x8x8x64x512 .f32) (D h : Fin 8) (x : Fin 4096) (c : Fin 512) :
    shapeCast S8x8x4096x512 (transpose S8x8x64x64x512 [1, 2, 0, 3, 4] y transposes_S64x8x8x64x512_S8x8x64x64x512_1_2_0_3_4) shapeCasts_S8x8x64x64x512_S8x8x4096x512 (ix4 D h x c)
      = y (ix5 ⟨x.val / 64, by omega⟩ D h ⟨x.val % 64, by omega⟩ c) :=
  (glue_wide (a := 8) (b := 8) (n := 64) (t := 64) (m := 4096) (e := 512) rfl _ _ D h ⟨x.val / 64, by omega⟩ ⟨x.val % 64, by omega⟩ c x (by dsimp only; omega)).trans (back_wide (a := 8) (b := 8) (n := 64) (t := 64) (e := 512) _ _ _ _ _ _ _)

theorem forwards_at (L : FVec Ideal S8x8x4096x512 .f32) (r : Fin 16384) (c : Fin 4096) :
    shapeCast S16384x4096 (transpose S4x4096x8x512 [0, 2, 1, 3] (extractStridedSlice S4x8x4096x512 ![0, 0, 0, 0] L slices_S8x8x4096x512_S4x8x4096x512_0_0_0_0) transposes_S4x8x4096x512_S4x4096x8x512_0_2_1_3) shapeCasts_S4x4096x8x512_S16384x4096 (ix2 r c)
      = L (ix4 ⟨r.val / 4096, by omega⟩ ⟨c.val / 512, by omega⟩ ⟨r.val % 4096, by omega⟩ ⟨c.val % 512, by omega⟩) := by
  refine (flat_rows (a := 4) (b := 8) (n := 4096) (e := 512) (r := 16384) (u := 4096) rfl rfl _ _ ⟨r.val / 4096, by omega⟩ ⟨r.val % 4096, by omega⟩ ⟨c.val / 512, by omega⟩ ⟨c.val % 512, by omega⟩ r c
    (by dsimp only; omega) (by dsimp only; omega)).trans ?_
  refine (rows_of (a := 4) (b := 8) (n := 4096) (e := 512) _ _ _ _ _ _).trans ?_
  pointwise

theorem backwards_at (L : FVec Ideal S8x8x4096x512 .f32) (r : Fin 16384) (c : Fin 4096) :
    shapeCast S16384x4096 (transpose S4x4096x8x512 [0, 2, 1, 3] (Host.reverse [2] (extractStridedSlice S4x8x4096x512 ![4, 0, 0, 0] L slices_S8x8x4096x512_S4x8x4096x512_4_0_0_0)) transposes_S4x8x4096x512_S4x4096x8x512_0_2_1_3) shapeCasts_S4x4096x8x512_S16384x4096 (ix2 r c)
      = L (ix4 ⟨4 + r.val / 4096, by omega⟩ ⟨c.val / 512, by omega⟩ ⟨4095 - r.val % 4096, by omega⟩ ⟨c.val % 512, by omega⟩) := by
  refine (flat_rows (a := 4) (b := 8) (n := 4096) (e := 512) (r := 16384) (u := 4096) rfl rfl _ _ ⟨r.val / 4096, by omega⟩ ⟨r.val % 4096, by omega⟩ ⟨c.val / 512, by omega⟩ ⟨c.val % 512, by omega⟩ r c
    (by dsimp only; omega) (by dsimp only; omega)).trans ?_
  refine (rows_of (a := 4) (b := 8) (n := 4096) (e := 512) _ _ _ _ _ _).trans ?_
  pointwise
  simp
  refine congrArg (fun z : Fin 4096 => L (ix4 _ _ z _)) (Fin.ext ?_)
  show 4096 - (r.val % 4096 + 1) = 4095 - r.val % 4096
  omega

theorem pair_at (u w : FVec Ideal S16384x4096 .f32) (d : Fin 2) (r : Fin 16384) (c : Fin 4096) :
    (truncf .bf16 (concatenate S2x16384x4096 0 [⟨S1x16384x4096, (broadcastInDim S1x16384x4096 ![1, 2] bcast_S16384x4096_S1x16384x4096_1_2 u)⟩, ⟨S1x16384x4096, (broadcastInDim S1x16384x4096 ![1, 2] bcast_S16384x4096_S1x16384x4096_1_2 w)⟩] concatenates_S1x16384x4096_S1x16384x4096_S2x16384x4096_d0) bitsLt_bf16_f32 : FVec Ideal S2x16384x4096 .bf16) (ix3 d r c)
      = if d.val = 0 then u (ix2 r c) else w (ix2 r c) := by
  pointwise
  exact dite_congr (propext Nat.lt_one_iff) (fun _ => rfl) fun _ => rfl

/-! The loop. -/

variable {I : Inputs} (m : (ℓ : Loc nD τ sig) → Buf (Elt Ideal) ℓ) (c : Dev nD)

/-- The arguments hold the inputs. -/
abbrev Args (I : Inputs) : Prop :=
  Holds I (m ((c.tc : Thread nD τ).loc main_arg0)) (m ((c.tc : Thread nD τ).loc main_arg1)) (m ((c.tc : Thread nD τ).loc main_arg2))
    (m ((c.tc : Thread nD τ).loc main_arg3))

variable (D h : Fin 8)

/-- A row of the loop's state, of the inputs. -/
abbrev RowOf (I : Inputs) (j : ℕ) (s : State Ideal) : Prop :=
  Row j s D h (igs I (D.val / 4) (D.val % 4) h) (lfs I (D.val / 4) (D.val % 4) h) (qs I (D.val / 4) (D.val % 4) h)
    (fun s e => ks I (D.val / 4) (D.val % 4) h s e * (1 / 16)) (vs I (D.val / 4) (D.val % 4) h)

variable {m c}

theorem row_first (hI : Args m c I) : RowOf D h I 0 (first m c) where
  hq n t e := q_at D h hI n t e
  hk n t e := k_at D h hI n t e
  hv n t e := v_at D h hI n t e
  hi n t := ig_at D h hI n t
  hf n t := lf_at D h hI n t
  hC a e := by
    show K_main_v58 (F := Ideal) (ix4 D h a e) = _
    rw [Nat.mul_zero, wsum_zero]
    pointwise [K_main_v58, K_main_cst_1]
    rfl
  hN e := by
    show K_main_v59 (F := Ideal) (ix3 D h e) = _
    rw [Nat.mul_zero, wsum_zero]
    pointwise [K_main_v59, K_main_cst_2]
    rfl
  hM := by
    show K_main_v60 (F := Ideal) (ix2 D h) = _
    rw [Nat.mul_zero, run_zero, pre_zero, add_zero]
    pointwise [K_main_v60, K_main_cst_3]
    rfl

theorem row_at (hI : Args m c I) : ∀ j, j ≤ 64 → RowOf D h I j (stateAt m c j)
  | 0, _ => row_first D h hI
  | j + 1, hj => row_next (row_at hI j (by omega)) (by omega)

/-- The outputs collected, of the chunks that were done. -/
theorem done_at (hI : Args m c I) (n t : Fin 64) (a : Fin 512) : ∀ j, j ≤ 64 → n.val < j →
    (stateAt m c j).main_v72_10 (ix5 n D h t a) = ((outs I (D.val / 4) (D.val % 4) h (64 * n.val + t.val) a : ℝ) : EReal)
  | 0, _, h0 => absurd h0 (Nat.not_lt_zero _)
  | j + 1, hj, hn => by
    show (step j (stateAt m c j)).main_v72_10 (ix5 n D h t a) = _
    rw [step_main_v72_10, b111_at j _ D h (by omega)]
    split
    · rename_i e
      rw [out_at (row_at D h hI j (by omega)) (by omega), ← e]
      unfold outs
      refine congrArg (fun z : ℕ → ℝ => ((outAt _ _ z _ _ : ℝ) : EReal)) (funext fun s => ?_)
      rw [Finset.sum_mul]
      exact Finset.sum_congr rfl fun e _ => (mul_assoc _ _ _).symm
    · rename_i e
      exact done_at hI n t a j (by omega) (by omega)

/-- What the reference returns. -/
theorem returned (hI : Args m c I) : R_main_v85 (stateAt m c 64) = result I := by
  funext y
  idx_vars y
  show _ = ((outs I y0.val (y1.val / 4096) (y2.val / 512) (if y0.val = 0 then y1.val % 4096 else 4095 - y1.val % 4096)
    ⟨y2.val % 512, Nat.mod_lt _ (by decide)⟩ : ℝ) : EReal)
  unfold R_main_v85
  rw [pair_at]
  split
  · rename_i e
    rw [forwards_at, chunks_at, done_at _ _ hI _ _ _ 64 le_rfl (Fin.isLt _), e]
    dsimp only
    congr 2 <;> omega
  · rename_i e
    rw [backwards_at, chunks_at, done_at _ _ hI _ _ _ 64 le_rfl (Fin.isLt _), show y0.val = 1 by omega]
    dsimp only
    congr 2 <;> omega

end Cert.ReferenceIdeal.Step

end
-- ==== Proof.Finite.lean ====
/- Arguments that meet the precondition hold real numbers where they are read. -/
module

public import proofs.«01_k».proof.Pre_finite
public import proofs.«01_k».proof.Proof.Inputs
public import Idealize.ShloMosaic.Lib.ReduceAll
public import Idealize.ShloMosaic.Lib.Pointwise
public import Idealize.ShloMosaic.Lib.Decide

@[expose] public section

set_option maxRecDepth 16384

noncomputable section

namespace Cert.Finite

open Idealize.ShloMosaic Cert.Chunk

/-- The shape facts the precondition states. -/
instance facts : Cert.Pre_finite.Facts where
  slices_S16384x24576_S16384x8192_0_0 := by decide
  bitsLt_bf16_f32 := by decide
  bcast_S_S16384x8192 := by decide
  reducesTo_S16384x8192_S_d0_1 := by decide
  h_S_ := by decide
  slices_S128x16384_S32x16384_0_0 := by decide
  bcast_S_S32x16384 := by decide
  reducesTo_S32x16384_S_d0_1 := by decide
  bcast_S_S16 := by decide
  reducesTo_S16_S_d0 := by decide

/-- A number whose absolute value is below infinity is real. -/
theorem real_of {x : EReal} (h : Ideal.cmp .olt (max x (-x)) (Ideal.ofBits .f32 0x7F800000#32) = 1#1) : x = ((x.toReal : ℝ) : EReal) := by
  rw [const_inf] at h
  have h' : max x (-x) < ⊤ := by
    by_contra hn
    rw [Ideal.cmp, decide_eq_false hn] at h
    exact absurd h (by decide)
  refine (EReal.coe_toReal (fun e => ?_) fun e => ?_).symm <;> (rw [e] at h'; simp at h')

instance : Subsingleton Cert.Pre_finite.S_.Idx := ⟨fun a b => funext fun i => i.elim0⟩

variable (X : FVec Ideal ⟨2, ![16384, 24576]⟩ .bf16) (G : FVec Ideal ⟨2, ![128, 16384]⟩ .f32) (A B : FVec Ideal ⟨1, ![16]⟩ .f32)

/-- The arguments as real numbers. -/
def inputs : Inputs where
  p r c := if h : r < 16384 ∧ c < 24576 then EReal.toReal (X (ix2 ⟨r, h.1⟩ ⟨c, h.2⟩)) else 0
  g a r := if h : a < 128 ∧ r < 16384 then EReal.toReal (G (ix2 ⟨a, h.1⟩ ⟨r, h.2⟩)) else 0
  bi j := if h : j < 16 then EReal.toReal (A (ix1 ⟨j, h⟩)) else 0
  bf j := if h : j < 16 then EReal.toReal (B (ix1 ⟨j, h⟩)) else 0

variable {X G A B}

open Cert.Pre_finite in
theorem holds (h : Cert.Pre_finite.fn (F := Ideal) X G A B = fun _ => 1#1) : Holds (inputs X G A B) X G A B := by
  have h0 := congrFun h (Shape.Idx.first Facts.h_S_)
  dsimp only [fn, fn_part1] at h0
  obtain ⟨h0, hB⟩ := IntOp.andi_eq_one.1 h0
  obtain ⟨h0, hA⟩ := IntOp.andi_eq_one.1 h0
  obtain ⟨hX, hG⟩ := IntOp.andi_eq_one.1 h0
  refine ⟨fun r c hc => ?_, fun a r ha => ?_, fun j => ?_, fun j => ?_⟩
  · have e := Host.reduce_andi_all _ _ _ _ _ hX (ix2 r ⟨c.val, hc⟩)
    pointwise at e
    unfold inputs
    dsimp only
    rw [dif_pos ⟨r.isLt, c.isLt⟩]
    exact real_of e
  · have e := Host.reduce_andi_all _ _ _ _ _ hG (ix2 ⟨a.val, ha⟩ r)
    pointwise at e
    unfold inputs
    dsimp only
    rw [dif_pos ⟨a.isLt, r.isLt⟩]
    exact real_of e
  · have e := Host.reduce_andi_all _ _ _ _ _ hA (ix1 j)
    pointwise at e
    unfold inputs
    dsimp only
    rw [dif_pos j.isLt]
    exact real_of e
  · have e := Host.reduce_andi_all _ _ _ _ _ hB (ix1 j)
    pointwise at e
    unfold inputs
    dsimp only
    rw [dif_pos j.isLt]
    exact real_of e

end Cert.Finite

end
-- ==== Proof.lean ====
/- The proof of the certificate's claim: the shape facts, each program's frame, and the equality of the kernel's and the reference's results
   over the real numbers, both being the recurrence's results in closed form. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.DownProj.Frame
public import proofs.«01_k».proof.Proof.Gen.DownProjIdeal.Frame
public import proofs.«01_k».proof.Proof.Gen.DownProjIdeal.Value
public import proofs.«01_k».proof.Proof.Gen.DownProjRefIdeal.Run
public import proofs.«01_k».proof.Proof.Merge
public import proofs.«01_k».proof.Proof.OutProj
public import proofs.«01_k».proof.Proof.DownProj
public import proofs.«01_k».proof.Proof.InProjRaw
public import proofs.«01_k».proof.Proof.InProjValue
public import proofs.«01_k».proof.Proof.Gen.InProj.Loops
public import proofs.«01_k».proof.Proof.Gen.InProj.Points
public import proofs.«01_k».proof.Proof.Gen.InProj.Launch
public import proofs.«01_k».proof.Proof.Gen.InProj.Skeleton
public import proofs.«01_k».proof.Proof.Gen.InProjRefIdeal.Run
public import proofs.«01_k».proof.Proof.Gen.InProjIdeal.Loops
public import proofs.«01_k».proof.Proof.Gen.InProjIdeal.Points
public import proofs.«01_k».proof.Proof.Gen.InProjIdeal.Launch
public import proofs.«01_k».proof.Proof.Gen.InProjIdeal.Skeleton
public import proofs.«01_k».proof.Proof.KerRun
public import proofs.«01_k».proof.Proof.RefValue
public import proofs.«01_k».proof.Proof.Finite

@[expose] public section

noncomputable section

namespace Cert.Proof

open Idealize.ShloMosaic Idealize.ShloMosaic.TcCoe Idealize.SL.Sem

/-- The reference keeps its arguments, and declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem equal : Cert.algebraic_KernelIdeal_ReferenceIdeal_pre_finite := by
  intro m g m' g' hpre hargs
  have hI := fun c => Cert.Finite.holds (hpre c)
  refine ⟨fun c => Cert.Chunk.result (Cert.Finite.inputs (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))), ?_, ?_⟩
  · refine (θ_run _ _ _).mono (fun r h c => ?_) (Cert.KernelIdeal.Value.run_blocks (F := Ideal) m g)
    exact ⟨(h c).1.trans (Cert.KerHead.array (hI c)), (h c).2⟩
  · refine (θ_run _ _ _).mono (fun r h c => ?_) (Cert.RefRun.run_state (F := Ideal) m' g')
    obtain ⟨e0, e1, e2, e3⟩ := hargs c
    refine ⟨(h c).1.trans (Cert.ReferenceIdeal.Step.returned ?_), (h c).2⟩
    have := hI c
    rw [← e0, ← e1, ← e2, ← e3] at this ⊢
    exact this

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.DownProj.Gen.facts, Cert.DownProjIdeal.Gen.facts, Cert.DownProjRefIdeal.Gen.facts, Cert.Finite.facts,
    fun m g _ => Cert.Kernel.Gen.frame m g, fun m g _ => Cert.KernelIdeal.Gen.frame m g, fun m g _ => Cert.KernelIdeal.Gen.frame m g,
    reference_frame, fun m g _ => reference_frame m g trivial,
    in_proj_frame, in_proj_ideal_frame, in_proj_reference_frame,
    fun m g _ => Cert.Merge.Gen.frame m g, fun m g _ => Cert.MergeIdeal.Gen.frame m g, merge_reference_frame,
    fun m g _ => Cert.OutProj.Gen.frame m g, fun m g _ => Cert.OutProjIdeal.Gen.frame m g, out_proj_reference_frame,
    fun m g _ => Cert.DownProj.Gen.frame m g, fun m g _ => Cert.DownProjIdeal.Gen.frame m g, down_proj_reference_frame,
    trivial, equal, trivial, in_proj_equal, trivial, merge_equal, trivial, out_proj_equal, trivial, down_proj_equal⟩

end Cert.Proof

end
